-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1x1024 : Shape := ⟨3, ![64, 1, 1024]⟩
abbrev S64x8x512 : Shape := ⟨3, ![64, 8, 512]⟩
abbrev S1024x256 : Shape := ⟨2, ![1024, 256]⟩
abbrev S1024x2048 : Shape := ⟨2, ![1024, 2048]⟩
abbrev S8x512x256 : Shape := ⟨3, ![8, 512, 256]⟩
abbrev S8x512x2048 : Shape := ⟨3, ![8, 512, 2048]⟩
abbrev S8x2048x512 : Shape := ⟨3, ![8, 2048, 512]⟩
abbrev S_ : Shape := ⟨0, ![]⟩

class Facts : Prop where
  bcast_S_S64x1x1024 : S_.BroadcastsInDim S64x1x1024 (![] : Fin 0 → Fin S64x1x1024.rank)
  bcast_S_S64x8x512 : S_.BroadcastsInDim S64x8x512 (![] : Fin 0 → Fin S64x8x512.rank)
  bcast_S_S1024x256 : S_.BroadcastsInDim S1024x256 (![] : Fin 0 → Fin S1024x256.rank)
  bcast_S_S1024x2048 : S_.BroadcastsInDim S1024x2048 (![] : Fin 0 → Fin S1024x2048.rank)
  bcast_S_S8x512x256 : S_.BroadcastsInDim S8x512x256 (![] : Fin 0 → Fin S8x512x256.rank)

variable [Facts]

def fn {F : FTy → Type} [FloatOps F] (main_arg0 : FVec F S64x1x1024 .f32) (main_arg1 : FVec F S64x8x512 .f32) (main_arg2 : FVec F S64x8x512 .f32) (main_arg3 : FVec F S1024x256 .f32) (main_arg4 : FVec F S1024x2048 .f32) (main_arg5 : FVec F S8x512x256 .f32) (main_arg6 : FVec F S8x512x2048 .f32) (main_arg7 : FVec F S8x512x2048 .f32) (main_arg8 : FVec F S8x512x256 .f32) (main_arg9 : FVec F S8x512x256 .f32) (main_arg10 : FVec F S8x512x2048 .f32) (main_arg11 : FVec F S8x2048x512 .f32) : IVec S64x1x1024 1 × IVec S64x8x512 1 × IVec S1024x256 1 × IVec S1024x2048 1 × IVec S8x512x256 1 :=
  let main_v0 : FVec F S64x1x1024 .f32 := Host.absf main_arg0
  let main_cst : FVec F S_ .f32 := constant S_ .f32 0x7F800000#32
  let main_v1 : FVec F S64x1x1024 .f32 := broadcastInDim S64x1x1024 ![] bcast_S_S64x1x1024 main_cst
  let main_v2 : IVec S64x1x1024 1 := cmpf .olt main_v0 main_v1
  let main_v3 : FVec F S64x8x512 .f32 := Host.absf main_arg1
  let main_cst_0 : FVec F S_ .f32 := constant S_ .f32 0x7F800000#32
  let main_v4 : FVec F S64x8x512 .f32 := broadcastInDim S64x8x512 ![] bcast_S_S64x8x512 main_cst_0
  let main_v5 : IVec S64x8x512 1 := cmpf .olt main_v3 main_v4
  let main_v6 : FVec F S1024x256 .f32 := Host.absf main_arg3
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S8x512x256 .f32 := Host.absf main_arg5
  let main_cst_3 : FVec F S_ .f32 := constant S_ .f32 0x7F800000#32
  let main_v13 : FVec F S8x512x256 .f32 := broadcastInDim S8x512x256 ![] bcast_S_S8x512x256 main_cst_3
  let main_v14 : IVec S8x512x256 1 := cmpf .olt main_v12 main_v13
  (main_v2, main_v5, main_v8, main_v11, main_v14)
-- ==== Kernel.lean ====
abbrev S64x1x1024 : Shape := ⟨3, ![64, 1, 1024]⟩
abbrev S64x8x512 : Shape := ⟨3, ![64, 8, 512]⟩
abbrev S1024x256 : Shape := ⟨2, ![1024, 256]⟩
abbrev S1024x2048 : Shape := ⟨2, ![1024, 2048]⟩
abbrev S8x512x256 : Shape := ⟨3, ![8, 512, 256]⟩
abbrev S8x512x2048 : Shape := ⟨3, ![8, 512, 2048]⟩
abbrev S8x2048x512 : Shape := ⟨3, ![8, 2048, 512]⟩
abbrev S64x1024 : Shape := ⟨2, ![64, 1024]⟩
abbrev S64x4096 : Shape := ⟨2, ![64, 4096]⟩
abbrev S64x512 : Shape := ⟨2, ![64, 512]⟩
abbrev S8x64x1 : Shape := ⟨3, ![8, 64, 1]⟩
abbrev S64x256 : Shape := ⟨2, ![64, 256]⟩
abbrev S1024x512 : Shape := ⟨2, ![1024, 512]⟩
abbrev S1x512x256 : Shape := ⟨3, ![1, 512, 256]⟩
abbrev S512x256 : Shape := ⟨2, ![512, 256]⟩
abbrev S64 : Shape := ⟨1, ![64]⟩
abbrev S64x1 : Shape := ⟨2, ![64, 1]⟩
abbrev S64x8 : Shape := ⟨2, ![64, 8]⟩
abbrev S64x1x8 : Shape := ⟨3, ![64, 1, 8]⟩
abbrev S64x8x1 : Shape := ⟨3, ![64, 8, 1]⟩
abbrev S64x8x8 : Shape := ⟨3, ![64, 8, 8]⟩
abbrev S1x64x1 : Shape := ⟨3, ![1, 64, 1]⟩
abbrev S1x512x1024 : Shape := ⟨3, ![1, 512, 1024]⟩
abbrev S1x1024x512 : Shape := ⟨3, ![1, 1024, 512]⟩
abbrev S8x64x256 : Shape := ⟨3, ![8, 64, 256]⟩
abbrev S8x64x2048 : Shape := ⟨3, ![8, 64, 2048]⟩
abbrev S8x64x512 : Shape := ⟨3, ![8, 64, 512]⟩
abbrev S512x1024 : Shape := ⟨2, ![512, 1024]⟩
abbrev S1x64x512 : Shape := ⟨3, ![1, 64, 512]⟩
abbrev S1x64x256 : Shape := ⟨3, ![1, 64, 256]⟩
abbrev S1x64x1024 : Shape := ⟨3, ![1, 64, 1024]⟩
abbrev S64x64 : Shape := ⟨2, ![64, 64]⟩
abbrev S1x64x64 : Shape := ⟨3, ![1, 64, 64]⟩
abbrev S64x2048 : Shape := ⟨2, ![64, 2048]⟩

abbrev nBuf : Space → Nat
  | .hbm => 22
  | .vmem => 43
  | .smem => 0
  | _ => 0

abbrev bufTy : (tb : Table) → Fin (tcTables nBuf tb) → BufTy
  | .hbm, ⟨0, _⟩ => ⟨S64x1x1024, .f32⟩
  | .hbm, ⟨1, _⟩ => ⟨S64x8x512, .f32⟩
  | .hbm, ⟨2, _⟩ => ⟨S64x8x512, .f32⟩
  | .hbm, ⟨3, _⟩ => ⟨S1024x256, .f32⟩
  | .hbm, ⟨4, _⟩ => ⟨S1024x2048, .f32⟩
  | .hbm, ⟨5, _⟩ => ⟨S8x512x256, .f32⟩
  | .hbm, ⟨6, _⟩ => ⟨S8x512x2048, .f32⟩
  | .hbm, ⟨7, _⟩ => ⟨S8x512x2048, .f32⟩
  | .hbm, ⟨8, _⟩ => ⟨S8x512x256, .f32⟩
  | .hbm, ⟨9, _⟩ => ⟨S8x512x256, .f32⟩
  | .hbm, ⟨10, _⟩ => ⟨S8x512x2048, .f32⟩
  | .hbm, ⟨11, _⟩ => ⟨S8x2048x512, .f32⟩
  | .hbm, ⟨12, _⟩ => ⟨S64x1024, .f32⟩
  | .hbm, ⟨13, _⟩ => ⟨S64x4096, .f32⟩
  | .hbm, ⟨14, _⟩ => ⟨S64x4096, .f32⟩
  | .hbm, ⟨15, _⟩ => ⟨S64x512, .f32⟩
  | .hbm, ⟨16, _⟩ => ⟨S8x64x1, .f32⟩
  | .hbm, ⟨17, _⟩ => ⟨S8x64x1, .f32⟩
  | .hbm, ⟨18, _⟩ => ⟨S64x4096, .f32⟩
  | .hbm, ⟨19, _⟩ => ⟨S64x4096, .f32⟩
  | .hbm, ⟨20, _⟩ => ⟨S64x8x512, .f32⟩
  | .hbm, ⟨21, _⟩ => ⟨S64x8x512, .f32⟩
  | .local _ .vmem, ⟨0, _⟩ => ⟨S64x1024, .f32⟩
  | .local _ .vmem, ⟨1, _⟩ => ⟨S64x4096, .f32⟩
  | .local _ .vmem, ⟨2, _⟩ => ⟨S1024x256, .f32⟩
  | .local _ .vmem, ⟨3, _⟩ => ⟨S1024x2048, .f32⟩
  | .local _ .vmem, ⟨4, _⟩ => ⟨S8x512x256, .f32⟩
  | .local _ .vmem, ⟨5, _⟩ => ⟨S64x512, .f32⟩
  | .local _ .vmem, ⟨6, _⟩ => ⟨S8x64x1, .f32⟩
  | .local _ .vmem, ⟨7, _⟩ => ⟨S8x64x1, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S8x64x1, .f32⟩
  | .local _ .vmem, ⟨14, _⟩ => ⟨S8x64x1, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x1024x512, .f32⟩
  | .local _ .vmem, ⟨32, _⟩ => ⟨S1x1024x512, .f32⟩
  | .local _ .vmem, ⟨33, _⟩ => ⟨S1x1024x512, .f32⟩
  | .local _ .vmem, ⟨34, _⟩ => ⟨S1x1024x512, .f32⟩
  | .local _ .vmem, ⟨35, _⟩ => ⟨S64x512, .f32⟩
  | .local _ .vmem, ⟨36, _⟩ => ⟨S64x512, .f32⟩
  | .local _ .vmem, ⟨37, _⟩ => ⟨S64x512, .f32⟩
  | .local _ .vmem, ⟨38, _⟩ => ⟨S64x512, .f32⟩
  | .local _ .vmem, ⟨39, _⟩ => ⟨S8x64x256, .f32⟩
  | .local _ .vmem, ⟨40, _⟩ => ⟨S8x64x256, .f32⟩
  | .local _ .vmem, ⟨41, _⟩ => ⟨S8x64x2048, .f32⟩
  | .local _ .vmem, ⟨42, _⟩ => ⟨S8x64x512, .f32⟩
  | _, _ => ⟨S64x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v4_0 : Ref sig .tc := ⟨.hbm, 18, rfl⟩
abbrev main_v4_1 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc1_stg16_1 : Ref sig .tc := ⟨.vmem, 38, rfl⟩
abbrev cc1_scratch0 : Ref sig .tc := ⟨.vmem, 39, rfl⟩
abbrev cc1_scratch1 : Ref sig .tc := ⟨.vmem, 40, rfl⟩
abbrev cc1_scratch2 : Ref sig .tc := ⟨.vmem, 41, rfl⟩
abbrev cc1_scratch3 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37
abbrev cc1_sem16_1 : DmaSem sig := 38

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![16], ![false]⟩

def k1_cond1 (i : grid1.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k1_off1 (i : grid1.Coords) : Fin 3 → Nat :=
  let arg0 : BitVec 32 := BitVec.ofNat 32 (i 0).val
  let v10 : Index := Scalar.indexCast arg0
  let c0_5 : Index := 0#32
  let c0_6 : Index := 0#32
  ![v10.toNat, 0, 0]
def k1_off2 (i : grid1.Coords) : Fin 3 → Nat :=
  let arg0 : BitVec 32 := BitVec.ofNat 32 (i 0).val
  let v70 : Index := Scalar.indexCast arg0
  let c0_30 : Index := 0#32
  let c0_31 : Index := 0#32
  ![v70.toNat, 0, 0]
def k1_off3 (i : grid1.Coords) : Fin 3 → Nat :=
  let arg0 : BitVec 32 := BitVec.ofNat 32 (i 0).val
  let v79 : Index := Scalar.indexCast arg0
  let c0_36 : Index := 0#32
  let c0_37 : Index := 0#32
  ![v79.toNat, 0, 0]
def k1_off4 (i : grid1.Coords) : Fin 3 → Nat :=
  let arg0 : BitVec 32 := BitVec.ofNat 32 (i 0).val
  let v97 : Index := Scalar.indexCast arg0
  let c0_48 : Index := 0#32
  let c0_49 : Index := 0#32
  ![v97.toNat, 0, 0]
def k1_off5 (i : grid1.Coords) : Fin 3 → Nat :=
  let arg0 : BitVec 32 := BitVec.ofNat 32 (i 0).val
  let v106 : Index := Scalar.indexCast arg0
  let c0_54 : Index := 0#32
  let c1024 : Index := 1024#32
  ![v106.toNat, 0, 1024]
def k1_cond2 (i : grid1.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k1_off6 (i : grid1.Coords) : Fin 3 → Nat :=
  let arg0 : BitVec 32 := BitVec.ofNat 32 (i 0).val
  let c8_i32_2 : BitVec 32 := 8#32
  let v6 : BitVec 32 := Scalar.subi arg0 c8_i32_2
  let v7 : Index := Scalar.indexCast v6
  let c0 : Index := 0#32
  let c0_3 : Index := 0#32
  ![v7.toNat, 0, 0]
def k1_off7 (i : grid1.Coords) : Fin 3 → Nat :=
  let arg0 : BitVec 32 := BitVec.ofNat 32 (i 0).val
  let c8_i32_2 : BitVec 32 := 8#32
  let v6 : BitVec 32 := Scalar.subi arg0 c8_i32_2
  let v10 : Index := Scalar.indexCast v6
  let c0_4 : Index := 0#32
  let c0_5 : Index := 0#32
  ![v10.toNat, 0, 0]
def k1_off8 (i : grid1.Coords) : Fin 3 → Nat :=
  let arg0 : BitVec 32 := BitVec.ofNat 32 (i 0).val
  let c8_i32_2 : BitVec 32 := 8#32
  let v6 : BitVec 32 := Scalar.subi arg0 c8_i32_2
  let v427 : Index := Scalar.indexCast v6
  let c0_236 : Index := 0#32
  let c0_237 : Index := 0#32
  ![v427.toNat, 0, 0]
def cc1_transform_0 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c1_i32 : BitVec 32 := 1#32
  let c0_i32_0 : BitVec 32 := 0#32
  ![v0.toNat, c0_i32.toNat, c1_i32.toNat]

def cc1_transform_7 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_8 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c1_i32 : BitVec 32 := 1#32
  let c0_i32_0 : BitVec 32 := 0#32
  ![v0.toNat, c0_i32.toNat, c1_i32.toNat]

def cc1_transform_9 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_10 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_11 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_12 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c1_i32 : BitVec 32 := 1#32
  let c0_i32_0 : BitVec 32 := 0#32
  ![v0.toNat, c0_i32.toNat, c1_i32.toNat]

def cc1_transform_13 (i : grid1.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_14 (i : grid1.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  ![v1.toNat, c1_i32.toNat, c0_i32_0.toNat]

def cc1_transform_15 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_16 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1024x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x1024x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S64x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S64x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== ReferenceIdeal.lean ====
abbrev S64x1x1024 : Shape := ⟨3, ![64, 1, 1024]⟩
abbrev S64x8x512 : Shape := ⟨3, ![64, 8, 512]⟩
abbrev S1024x256 : Shape := ⟨2, ![1024, 256]⟩
abbrev S1024x2048 : Shape := ⟨2, ![1024, 2048]⟩
abbrev S8x512x256 : Shape := ⟨3, ![8, 512, 256]⟩
abbrev S8x512x2048 : Shape := ⟨3, ![8, 512, 2048]⟩
abbrev S8x2048x512 : Shape := ⟨3, ![8, 2048, 512]⟩
abbrev S_ : Shape := ⟨0, ![]⟩
abbrev S64x2x1024 : Shape := ⟨3, ![64, 2, 1024]⟩
abbrev S64x2x256 : Shape := ⟨3, ![64, 2, 256]⟩
abbrev S64x2x2048 : Shape := ⟨3, ![64, 2, 2048]⟩
abbrev S8x256x64 : Shape := ⟨3, ![8, 256, 64]⟩
abbrev S64x8x256 : Shape := ⟨3, ![64, 8, 256]⟩
abbrev S64x2x4x64 : Shape := ⟨4, ![64, 2, 4, 64]⟩
abbrev S64x4x2x64 : Shape := ⟨4, ![64, 4, 2, 64]⟩
abbrev S64x2x4x512 : Shape := ⟨4, ![64, 2, 4, 512]⟩
abbrev S64x4x2x512 : Shape := ⟨4, ![64, 4, 2, 512]⟩
abbrev S64x2x512 : Shape := ⟨3, ![64, 2, 512]⟩
abbrev S64x8x4x64 : Shape := ⟨4, ![64, 8, 4, 64]⟩
abbrev S64x4x8x64 : Shape := ⟨4, ![64, 4, 8, 64]⟩
abbrev S64x4x64x2 : Shape := ⟨4, ![64, 4, 64, 2]⟩
abbrev S64x4x8x2 : Shape := ⟨4, ![64, 4, 8, 2]⟩
abbrev S64x8x2 : Shape := ⟨3, ![64, 8, 2]⟩
abbrev S64x8x1 : Shape := ⟨3, ![64, 8, 1]⟩
abbrev S64x8 : Shape := ⟨2, ![64, 8]⟩
abbrev S64x4 : Shape := ⟨2, ![64, 4]⟩
abbrev S64 : Shape := ⟨1, ![64]⟩
abbrev S64x1 : Shape := ⟨2, ![64, 1]⟩
abbrev S64x4x1 : Shape := ⟨3, ![64, 4, 1]⟩
abbrev S64x4x2 : Shape := ⟨3, ![64, 4, 2]⟩
abbrev S8x2048x64 : Shape := ⟨3, ![8, 2048, 64]⟩
abbrev S64x8x2048 : Shape := ⟨3, ![64, 8, 2048]⟩
abbrev S64x8x1536 : Shape := ⟨3, ![64, 8, 1536]⟩
abbrev S64x8x4x512 : Shape := ⟨4, ![64, 8, 4, 512]⟩
abbrev S64x4x8x512 : Shape := ⟨4, ![64, 4, 8, 512]⟩
abbrev S64x4x64x8 : Shape := ⟨4, ![64, 4, 64, 8]⟩
abbrev S64x4x8x8 : Shape := ⟨4, ![64, 4, 8, 8]⟩
abbrev S64x4x8 : Shape := ⟨3, ![64, 4, 8]⟩
abbrev S64x4x8x1 : Shape := ⟨4, ![64, 4, 8, 1]⟩
abbrev S64x1x8x1 : Shape := ⟨4, ![64, 1, 8, 1]⟩
abbrev S8x512x64 : Shape := ⟨3, ![8, 512, 64]⟩

abbrev nBuf : Space → Nat
  | .hbm => 182
  | .vmem => 0
  | .smem => 0
  | _ => 0

abbrev hbmTy0_0 (i : Nat) : BufTy := match i % 128 with
  | 0 => ⟨S64x1x1024, .f32⟩
  | 1 => ⟨S64x8x512, .f32⟩
  | 2 => ⟨S64x8x512, .f32⟩
  | 3 => ⟨S1024x256, .f32⟩
  | 4 => ⟨S1024x2048, .f32⟩
  | 5 => ⟨S8x512x256, .f32⟩
  | 6 => ⟨S8x512x2048, .f32⟩
  | 7 => ⟨S8x512x2048, .f32⟩
  | 8 => ⟨S8x512x256, .f32⟩
  | 9 => ⟨S8x512x256, .f32⟩
  | 10 => ⟨S8x512x2048, .f32⟩
  | 11 => ⟨S8x2048x512, .f32⟩
  | 12 => ⟨S_, .f32⟩
  | 13 => ⟨S64x1x1024, .f32⟩
  | 14 => ⟨S64x2x1024, .f32⟩
  | 15 => ⟨S64x2x256, .f32⟩
  | 16 => ⟨S64x2x2048, .f32⟩
  | 17 => ⟨S8x256x64, .f32⟩
  | 18 => ⟨S64x8x256, .f32⟩
  | 19 => ⟨S64x2x4x64, .f32⟩
  | 20 => ⟨S64x4x2x64, .f32⟩
  | 21 => ⟨S64x2x4x512, .f32⟩
  | 22 => ⟨S64x4x2x512, .f32⟩
  | 23 => ⟨S_, .f32⟩
  | 24 => ⟨S64x2x512, .f32⟩
  | 25 => ⟨S_, .f32⟩
  | 26 => ⟨S64x2x512, .f32⟩
  | 27 => ⟨S64x2x512, .f32⟩
  | 28 => ⟨S64x8x4x64, .f32⟩
  | 29 => ⟨S64x4x8x64, .f32⟩
  | 30 => ⟨S64x4x64x2, .f32⟩
  | 31 => ⟨S64x4x8x2, .f32⟩
  | 32 => ⟨S_, .f32⟩
  | 33 => ⟨S64x4x8x2, .f32⟩
  | 34 => ⟨S64x4x8x2, .f32⟩
  | 35 => ⟨S_, .f32⟩
  | 36 => ⟨S64x8x2, .f32⟩
  | 37 => ⟨S_, .f32⟩
  | 38 => ⟨S64x8x2, .f32⟩
  | 39 => ⟨S64x8x2, .f32⟩
  | 40 => ⟨S64x8x1, .f32⟩
  | 41 => ⟨S64x8, .f32⟩
  | 42 => ⟨S64x4, .f32⟩
  | 43 => ⟨S64x4, .i32⟩
  | 44 => ⟨S_, .f32⟩
  | 45 => ⟨S64x8, .f32⟩
  | 46 => ⟨S64, .i32⟩
  | 47 => ⟨S64x1, .i32⟩
  | 48 => ⟨S_, .i32⟩
  | 49 => ⟨S64x1, .i32⟩
  | 50 => ⟨S64x1, .i1⟩
  | 51 => ⟨S_, .i32⟩
  | 52 => ⟨S64x1, .i32⟩
  | 53 => ⟨S64x1, .i32⟩
  | 54 => ⟨S64x1, .i32⟩
  | 55 => ⟨S_, .i32⟩
  | 56 => ⟨S64x4, .i32⟩
  | 57 => ⟨S64x4, .i1⟩
  | 58 => ⟨S_, .i32⟩
  | 59 => ⟨S64x4, .i32⟩
  | 60 => ⟨S64x4, .i32⟩
  | 61 => ⟨S64x4, .i32⟩
  | 62 => ⟨S64x4, .i32⟩
  | 63 => ⟨S64x4x1, .i32⟩
  | 64 => ⟨S64x4x1, .i32⟩
  | 65 => ⟨S64x4x2, .i32⟩
  | 66 => ⟨S_, .f32⟩
  | 67 => ⟨S64x4, .f32⟩
  | 68 => ⟨S64x8, .f32⟩
  | 69 => ⟨S_, .f32⟩
  | 70 => ⟨S64x8, .f32⟩
  | 71 => ⟨S_, .f32⟩
  | 72 => ⟨S64x8, .f32⟩
  | 73 => ⟨S64x8, .f32⟩
  | 74 => ⟨S64x8x1, .f32⟩
  | 75 => ⟨S64x8x2, .f32⟩
  | 76 => ⟨S64x8x2, .f32⟩
  | 77 => ⟨S64x8x2, .f32⟩
  | 78 => ⟨S_, .f32⟩
  | 79 => ⟨S64x8, .f32⟩
  | 80 => ⟨S64x8x1, .f32⟩
  | 81 => ⟨S64x8x2, .f32⟩
  | 82 => ⟨S64x8x2, .f32⟩
  | 83 => ⟨S64x8x512, .f32⟩
  | 84 => ⟨S64x8x1, .f32⟩
  | 85 => ⟨S64x8x512, .f32⟩
  | 86 => ⟨S64x8x512, .f32⟩
  | 87 => ⟨S_, .f32⟩
  | 88 => ⟨S64x8x512, .f32⟩
  | 89 => ⟨S64x8x512, .f32⟩
  | 90 => ⟨S_, .f32⟩
  | 91 => ⟨S64x8x512, .f32⟩
  | 92 => ⟨S64x8x512, .f32⟩
  | 93 => ⟨S8x2048x64, .f32⟩
  | 94 => ⟨S64x8x2048, .f32⟩
  | 95 => ⟨S8x2048x64, .f32⟩
  | 96 => ⟨S64x8x2048, .f32⟩
  | 97 => ⟨S64x8x2048, .f32⟩
  | 98 => ⟨S64x8x1536, .f32⟩
  | 99 => ⟨S64x8x1536, .f32⟩
  | 100 => ⟨S64x8x1536, .f32⟩
  | 101 => ⟨S_, .f32⟩
  | 102 => ⟨S64x8x1536, .f32⟩
  | 103 => ⟨S64x8x1536, .f32⟩
  | 104 => ⟨S_, .f32⟩
  | 105 => ⟨S64x8x1536, .f32⟩
  | 106 => ⟨S64x8x1536, .f32⟩
  | 107 => ⟨S64x8x512, .f32⟩
  | 108 => ⟨S64x8x512, .f32⟩
  | 109 => ⟨S64x8x512, .f32⟩
  | 110 => ⟨S64x8x512, .f32⟩
  | 111 => ⟨S64x8x512, .f32⟩
  | 112 => ⟨S64x8x512, .f32⟩
  | 113 => ⟨S64x8x512, .f32⟩
  | 114 => ⟨S64x8x512, .f32⟩
  | 115 => ⟨S64x8x512, .f32⟩
  | 116 => ⟨S64x8x512, .f32⟩
  | 117 => ⟨S64x8x1, .f32⟩
  | 118 => ⟨S64x8x512, .f32⟩
  | 119 => ⟨S64x8x512, .f32⟩
  | 120 => ⟨S_, .f32⟩
  | 121 => ⟨S64x8x1, .f32⟩
  | 122 => ⟨S64x8x1, .f32⟩
  | 123 => ⟨S64x8x512, .f32⟩
  | 124 => ⟨S64x8x512, .f32⟩
  | 125 => ⟨S64x8x512, .f32⟩
  | 126 => ⟨S8x256x64, .f32⟩
  | 127 => ⟨S64x8x256, .f32⟩
  | _ => ⟨S64x1x1024, .f32⟩

abbrev hbmTy0_1 (i : Nat) : BufTy := match i % 128 with
  | 0 => ⟨S64x8x4x64, .f32⟩
  | 1 => ⟨S64x4x8x64, .f32⟩
  | 2 => ⟨S8x256x64, .f32⟩
  | 3 => ⟨S64x8x256, .f32⟩
  | 4 => ⟨S64x8x4x64, .f32⟩
  | 5 => ⟨S64x4x8x64, .f32⟩
  | 6 => ⟨S8x2048x64, .f32⟩
  | 7 => ⟨S64x8x2048, .f32⟩
  | 8 => ⟨S64x8x4x512, .f32⟩
  | 9 => ⟨S64x4x8x512, .f32⟩
  | 10 => ⟨S64x4x64x8, .f32⟩
  | 11 => ⟨S64x4x8x8, .f32⟩
  | 12 => ⟨S_, .f32⟩
  | 13 => ⟨S64x4x8x8, .f32⟩
  | 14 => ⟨S64x4x8x8, .f32⟩
  | 15 => ⟨S_, .f32⟩
  | 16 => ⟨S64x4x8, .f32⟩
  | 17 => ⟨S_, .f32⟩
  | 18 => ⟨S64x4x8, .f32⟩
  | 19 => ⟨S64x4x8, .f32⟩
  | 20 => ⟨S64x4x8x1, .f32⟩
  | 21 => ⟨S64x4x8x8, .f32⟩
  | 22 => ⟨S64x4x8x8, .f32⟩
  | 23 => ⟨S64x4x8x8, .f32⟩
  | 24 => ⟨S_, .f32⟩
  | 25 => ⟨S64x4x8, .f32⟩
  | 26 => ⟨S64x4x8x1, .f32⟩
  | 27 => ⟨S64x4x8x8, .f32⟩
  | 28 => ⟨S64x4x8x8, .f32⟩
  | 29 => ⟨S64x1x8x1, .f32⟩
  | 30 => ⟨S64x4x8x8, .f32⟩
  | 31 => ⟨S64x4x8x8, .f32⟩
  | 32 => ⟨S64x4x8x512, .f32⟩
  | 33 => ⟨S64x8x4x512, .f32⟩
  | 34 => ⟨S64x8x2048, .f32⟩
  | 35 => ⟨S8x512x64, .f32⟩
  | 36 => ⟨S64x8x512, .f32⟩
  | 37 => ⟨S64x8x512, .f32⟩
  | 38 => ⟨S64x8x512, .f32⟩
  | 39 => ⟨S64x8x512, .f32⟩
  | 40 => ⟨S_, .f32⟩
  | 41 => ⟨S64x8x1, .f32⟩
  | 42 => ⟨S64x8x1, .f32⟩
  | 43 => ⟨S64x8x512, .f32⟩
  | 44 => ⟨S64x8x512, .f32⟩
  | 45 => ⟨S64x8x512, .f32⟩
  | 46 => ⟨S64x8x512, .f32⟩
  | 47 => ⟨S64x8x512, .f32⟩
  | 48 => ⟨S_, .f32⟩
  | 49 => ⟨S64x8x1, .f32⟩
  | 50 => ⟨S64x8x1, .f32⟩
  | 51 => ⟨S64x8x512, .f32⟩
  | 52 => ⟨S64x8x512, .f32⟩
  | 53 => ⟨S64x8x512, .f32⟩
  | _ => ⟨S64x1x1024, .f32⟩

abbrev hbmTy (i : Nat) : BufTy := match i / 128 with
  | 0 => hbmTy0_0 i
  | 1 => hbmTy0_1 i
  | _ => ⟨S64x1x1024, .f32⟩

abbrev bufTy : (tb : Table) → Fin (tcTables nBuf tb) → BufTy
  | .hbm, ⟨i, _⟩ => hbmTy i
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_values : Ref sig .tc := ⟨.hbm, 42, rfl⟩
abbrev main_indices : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_18 : Ref sig .tc := ⟨.hbm, 140, rfl⟩
abbrev main_v106 : Ref sig .tc := ⟨.hbm, 141, rfl⟩
abbrev main_v107 : Ref sig .tc := ⟨.hbm, 142, rfl⟩
abbrev main_cst_19 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_21 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_22 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_23 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩

abbrev nD : Nat := 1
abbrev τ : Topo := Topo.v7x

variable {F : FTy → Type} [FloatOps F]
-- ==== Proof.Slabs.lean ====
/-
  Slabs of a stacked buffer: a buffer of eight slabs of sixty-four rows, its slab `k`, loading a slab at a computed
  offset, and replacing a slab, or the two halves of one, in a buffer whose earlier slabs are known.
-/
module

public import Idealize.ShloMosaic.Lib.Pipeline.FrameBody
public import Idealize.ShloMosaic.Lib.ValueIdxCore

@[expose] public section

noncomputable section

namespace Cert.Proof.Slabs

open Idealize.ShloMosaic
open Idealize.ShloMosaic.ValueIdx (ix3 eq_ix3)

variable {α : Type} {n : ℕ}

/-- Slab `k` of a stacked buffer. -/
def slab (X : (⟨3, ![8, 64, n]⟩ : Shape).Idx → α) (k : ℕ) : (⟨3, ![1, 64, n]⟩ : Shape).Idx → α :=
  fun y => X (ix3 ⟨k % 8, Nat.mod_lt _ (by decide)⟩ (y 1) (y 2))

/-- Two stacked buffers agree on the slabs below `k`. -/
def Agree (k : ℕ) (X known : (⟨3, ![8, 64, n]⟩ : Shape).Idx → α) : Prop :=
  ∀ y, (y 0).val < k → X y = known y

/-- Nothing is asked of the slabs below zero. -/
theorem agree_zero (X known : (⟨3, ![8, 64, n]⟩ : Shape).Idx → α) : Agree 0 X known := fun _ h => absurd h (Nat.not_lt_zero _)

/-- Agreeing on eight slabs or more is being equal. -/
theorem eq_of_agree {k : ℕ} (hk : 8 ≤ k) {X known : (⟨3, ![8, 64, n]⟩ : Shape).Idx → α} (h : Agree k X known) : X = known :=
  funext fun y => h y (Nat.lt_of_lt_of_le (y 0).isLt hk)

/-- A buffer agrees with itself. -/
theorem agree_refl (k : ℕ) (X : (⟨3, ![8, 64, n]⟩ : Shape).Idx → α) : Agree k X X := fun _ _ => rfl

/-- Loading one slab at a computed offset reads that slab. -/
theorem ld_slab {Val : EltTy → Type} {e : EltTy} (X : (⟨3, ![8, 64, n]⟩ : Shape).Idx → Val e) (off : Fin 3 → ℕ) (k : ℕ) (hk : k < 8)
    (hoff : off = ![k, 0, 0]) (inb : ∀ a, off a + (![1, 64, n] : Fin 3 → ℕ) a ≤ (![8, 64, n] : Fin 3 → ℕ) a) :
    View.ld (S := ⟨3, ![8, 64, n]⟩) X (Rect.unit (s := ⟨3, ![8, 64, n]⟩) off ![1, 64, n] inb) = slab X k := by
  subst hoff
  funext y
  refine congrArg X (funext fun a => Fin.ext ?_)
  have h0 : (y 0).val = 0 := Nat.lt_one_iff.mp (y 0).isLt
  match a with
  | ⟨0, _⟩ =>
    show k + 1 * (y 0).val = k % 8
    rw [h0, Nat.mod_eq_of_lt hk]; omega
  | ⟨1, _⟩ =>
    show 0 + 1 * (y 1).val = (y 1).val
    omega
  | ⟨2, _⟩ =>
    show 0 + 1 * (y 2).val = (y 2).val
    omega

/-- Replacing part of a slab: the columns from `b` on, as many as the piece has. -/
theorem overlay_slab {w : ℕ} (off : Fin 3 → ℕ) (k b : ℕ) (hoff : off = ![k, 0, b])
    (inb : ∀ a, off a + (![1, 64, w] : Fin 3 → ℕ) a ≤ (![8, 64, n] : Fin 3 → ℕ) a)
    (X : (⟨3, ![8, 64, n]⟩ : Shape).Idx → α) (G : (⟨3, ![1, 64, w]⟩ : Shape).Idx → α) (y : (⟨3, ![8, 64, n]⟩ : Shape).Idx) :
    (Rect.unit (s := ⟨3, ![8, 64, n]⟩) off ![1, 64, w] inb).overlay X G y
      = if h : (y 0).val = k ∧ b ≤ (y 2).val ∧ (y 2).val < b + w then G (ix3 0 (y 1) ⟨(y 2).val - b, by omega⟩) else X y := by
  subst hoff
  by_cases h : (y 0).val = k ∧ b ≤ (y 2).val ∧ (y 2).val < b + w
  · rw [dif_pos h]
    have e : y = (Rect.unit (s := ⟨3, ![8, 64, n]⟩) ![k, 0, b] ![1, 64, w] inb).emb
        (ix3 (n0 := 1) (n1 := 64) (n2 := w) 0 (y 1) ⟨(y 2).val - b, by omega⟩) := by
      funext a
      refine Fin.ext ?_
      match a with
      | ⟨0, _⟩ => show (y 0).val = k + 1 * 0; omega
      | ⟨1, _⟩ => show (y 1).val = 0 + 1 * (y 1).val; omega
      | ⟨2, _⟩ => show (y 2).val = b + 1 * ((y 2).val - b); omega
    refine (congrArg ((Rect.unit (s := ⟨3, ![8, 64, n]⟩) ![k, 0, b] ![1, 64, w] inb).overlay X G) e).trans ?_
    exact Rect.overlay_emb (Rect.unit (s := ⟨3, ![8, 64, n]⟩) ![k, 0, b] ![1, 64, w] inb) X G _
  · rw [dif_neg h]
    refine Rect.overlay_of_not_mem (Rect.unit (s := ⟨3, ![8, 64, n]⟩) ![k, 0, b] ![1, 64, w] inb) X G fun hm => h ?_
    have hm' := Rect.mem_set_unit.mp hm
    have a0 : k ≤ (y 0).val ∧ (y 0).val < k + 1 := hm' 0
    have a2 : b ≤ (y 2).val ∧ (y 2).val < b + w := hm' 2
    exact ⟨by omega, a2⟩

/-- Replacing slab `k` by the known one extends the agreement by that slab. -/
theorem agree_step (off : Fin 3 → ℕ) (k : ℕ) (hk : k < 8) (hoff : off = ![k, 0, 0])
    (inb : ∀ a, off a + (![1, 64, n] : Fin 3 → ℕ) a ≤ (![8, 64, n] : Fin 3 → ℕ) a)
    (X known : (⟨3, ![8, 64, n]⟩ : Shape).Idx → α) (G : (⟨3, ![1, 64, n]⟩ : Shape).Idx → α) (hX : Agree k X known)
    (hG : ∀ y : (⟨3, ![8, 64, n]⟩ : Shape).Idx, (y 0).val = k → known y = G (ix3 0 (y 1) (y 2))) :
    Agree (k + 1) ((Rect.unit (s := ⟨3, ![8, 64, n]⟩) off ![1, 64, n] inb).overlay X G) known := by
  intro y hy
  rw [overlay_slab off k 0 hoff inb X G y]
  have h2 : (y 2).val < n := (y 2).isLt
  split
  · rename_i h
    rw [hG y h.1]
    rfl
  · rename_i h
    exact hX y (by omega)

/-- Replacing the two halves of slab `k` by the known ones extends the agreement by that slab. -/
theorem agree_step_halves {w : ℕ} (offA offB : Fin 3 → ℕ) (k : ℕ) (hk : k < 8) (hA : offA = ![k, 0, 0]) (hB : offB = ![k, 0, w])
    (inbA : ∀ a, offA a + (![1, 64, w] : Fin 3 → ℕ) a ≤ (![8, 64, w + w] : Fin 3 → ℕ) a)
    (inbB : ∀ a, offB a + (![1, 64, w] : Fin 3 → ℕ) a ≤ (![8, 64, w + w] : Fin 3 → ℕ) a)
    (X known : (⟨3, ![8, 64, w + w]⟩ : Shape).Idx → α) (GA GB : (⟨3, ![1, 64, w]⟩ : Shape).Idx → α) (hX : Agree k X known)
    (hGA : ∀ y : (⟨3, ![8, 64, w + w]⟩ : Shape).Idx, (y 0).val = k → ∀ h : (y 2).val < w, known y = GA (ix3 0 (y 1) ⟨(y 2).val, h⟩))
    (hGB : ∀ y : (⟨3, ![8, 64, w + w]⟩ : Shape).Idx, (y 0).val = k → ∀ h : w ≤ (y 2).val,
      known y = GB (ix3 0 (y 1) ⟨(y 2).val - w, by have : (y 2).val < w + w := (y 2).isLt; omega⟩)) :
    Agree (k + 1) ((Rect.unit (s := ⟨3, ![8, 64, w + w]⟩) offB ![1, 64, w] inbB).overlay
      ((Rect.unit (s := ⟨3, ![8, 64, w + w]⟩) offA ![1, 64, w] inbA).overlay X GA) GB) known := by
  intro y hy
  have h2 : (y 2).val < w + w := (y 2).isLt
  rw [overlay_slab offB k w hB inbB _ GB y]
  split
  · rename_i h
    exact (hGB y h.1 h.2.1).symm
  · rename_i h
    rw [overlay_slab offA k 0 hA inbA X GA y]
    split
    · rename_i h'
      exact (hGA y h'.1 (by omega)).symm
    · rename_i h'
      exact hX y (by omega)

end Cert.Proof.Slabs

end
-- ==== Proof.KernelIdealRegion0.lean ====
/-
  The first kernel region (the input attention): what its body leaves in its three output windows, the body's
  triple and the pipeline's proof data, for contents `V` of the device buffers at the region's entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values the body computes from its inputs' blocks -/

section Values

/-- The key of the input. -/
def keyRow (x0 : Vec F S64x1024 .f32) (x1 : Vec F S64x4096 .f32) (x2 : Vec F S1024x256 .f32) (x3 : Vec F S1024x2048 .f32) (x4 : Vec F S8x512x256 .f32) : FVec F S64x256 .f32 :=
  k0_pay4 (View.ld x0 (Rect.unit (s := S64x1024) ![0, 0] S64x1024.size inb_S64x1024_S64x1024_0_0)) (View.ld x2 (Rect.unit (s := S1024x256) ![0, 0] S1024x256.size inb_S1024x256_S1024x256_0_0))

/-- Unit 0: the score column. -/
def score0 (x0 : Vec F S64x1024 .f32) (x1 : Vec F S64x4096 .f32) (x2 : Vec F S1024x256 .f32) (x3 : Vec F S1024x2048 .f32) (x4 : Vec F S8x512x256 .f32) : FVec F S64x1 .f32 :=
  k0_pay5 (View.ld x0 (Rect.unit (s := S64x1024) ![0, 0] S64x1024.size inb_S64x1024_S64x1024_0_0)) (View.ld x2 (Rect.unit (s := S1024x256) ![0, 0] S1024x256.size inb_S1024x256_S1024x256_0_0)) (View.ld x1 (Rect.unit (s := S64x4096) ![0, 0] S64x512.size inb_S64x4096_S64x512_0_0)) (View.ld x4 (Rect.unit (s := S8x512x256) ![0, 0, 0] S1x512x256.size inb_S8x512x256_S1x512x256_0_0_0))

/-- Unit 1: the score column. -/
def score1 (x0 : Vec F S64x1024 .f32) (x1 : Vec F S64x4096 .f32) (x2 : Vec F S1024x256 .f32) (x3 : Vec F S1024x2048 .f32) (x4 : Vec F S8x512x256 .f32) : FVec F S64x1 .f32 :=
  k0_pay7 (keyRow x0 x1 x2 x3 x4) (k0_pay6 (View.ld x1 (Rect.unit (s := S64x4096) ![0, 512] S64x512.size inb_S64x4096_S64x512_0_512))) (View.ld x4 (Rect.unit (s := S8x512x256) ![1, 0, 0] S1x512x256.size inb_S8x512x256_S1x512x256_1_0_0))

/-- Unit 2: the score column. -/
def score2 (x0 : Vec F S64x1024 .f32) (x1 : Vec F S64x4096 .f32) (x2 : Vec F S1024x256 .f32) (x3 : Vec F S1024x2048 .f32) (x4 : Vec F S8x512x256 .f32) : FVec F S64x1 .f32 :=
  k0_pay8 (keyRow x0 x1 x2 x3 x4) (View.ld x1 (Rect.unit (s := S64x4096) ![0, 1024] S64x512.size inb_S64x4096_S64x512_0_1024)) (View.ld x4 (Rect.unit (s := S8x512x256) ![2, 0, 0] S1x512x256.size inb_S8x512x256_S1x512x256_2_0_0))

/-- Unit 3: the score column. -/
def score3 (x0 : Vec F S64x1024 .f32) (x1 : Vec F S64x4096 .f32) (x2 : Vec F S1024x256 .f32) (x3 : Vec F S1024x2048 .f32) (x4 : Vec F S8x512x256 .f32) : FVec F S64x1 .f32 :=
  k0_pay10 (k0_pay9 (keyRow x0 x1 x2 x3 x4) (View.ld x1 (Rect.unit (s := S64x4096) ![0, 1536] S64x512.size inb_S64x4096_S64x512_0_1536)) (View.ld x4 (Rect.unit (s := S8x512x256) ![3, 0, 0] S1x512x256.size inb_S8x512x256_S1x512x256_3_0_0))) (Scalar.ofBits .f32 0x3D000000#32)

/-- Unit 4: the score column. -/
def score4 (x0 : Vec F S64x1024 .f32) (x1 : Vec F S64x4096 .f32) (x2 : Vec F S1024x256 .f32) (x3 : Vec F S1024x2048 .f32) (x4 : Vec F S8x512x256 .f32) : FVec F S64x1 .f32 :=
  k0_pay11 (keyRow x0 x1 x2 x3 x4) (View.ld x1 (Rect.unit (s := S64x4096) ![0, 2048] S64x512.size inb_S64x4096_S64x512_0_2048)) (View.ld x4 (Rect.unit (s := S8x512x256) ![4, 0, 0] S1x512x256.size inb_S8x512x256_S1x512x256_4_0_0))

/-- Unit 5: the score column. -/
def score5 (x0 : Vec F S64x1024 .f32) (x1 : Vec F S64x4096 .f32) (x2 : Vec F S1024x256 .f32) (x3 : Vec F S1024x2048 .f32) (x4 : Vec F S8x512x256 .f32) : FVec F S64x1 .f32 :=
  k0_pay12 (keyRow x0 x1 x2 x3 x4) (View.ld x1 (Rect.unit (s := S64x4096) ![0, 2560] S64x512.size inb_S64x4096_S64x512_0_2560)) (View.ld x4 (Rect.unit (s := S8x512x256) ![5, 0, 0] S1x512x256.size inb_S8x512x256_S1x512x256_5_0_0))

/-- Unit 6: the query. -/
def query6 (x0 : Vec F S64x1024 .f32) (x1 : Vec F S64x4096 .f32) (x2 : Vec F S1024x256 .f32) (x3 : Vec F S1024x2048 .f32) (x4 : Vec F S8x512x256 .f32) : FVec F S64x256 .bf16 :=
  k0_pay13 (View.ld x1 (Rect.unit (s := S64x4096) ![0, 3072] S64x512.size inb_S64x4096_S64x512_0_3072)) (View.ld x4 (Rect.unit (s := S8x512x256) ![6, 0, 0] S1x512x256.size inb_S8x512x256_S1x512x256_6_0_0))

/-- The mask: one where the unit is among the selected ones, zero elsewhere. -/
def maskAll (x0 : Vec F S64x1024 .f32) (x1 : Vec F S64x4096 .f32) (x2 : Vec F S1024x256 .f32) (x3 : Vec F S1024x2048 .f32) (x4 : Vec F S8x512x256 .f32) : FVec F S64x8 .f32 :=
  k0_pay15 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0))

/-- The gate: the logistic of the score where the unit is selected, zero elsewhere. -/
def gateAll (x0 : Vec F S64x1024 .f32) (x1 : Vec F S64x4096 .f32) (x2 : Vec F S1024x256 .f32) (x3 : Vec F S1024x2048 .f32) (x4 : Vec F S8x512x256 .f32) : FVec F S64x8 .f32 :=
  k0_pay16 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0))

/-- The gate of unit 0, as the body takes it. -/
def gateCol (x0 : Vec F S64x1024 .f32) (x1 : Vec F S64x4096 .f32) (x2 : Vec F S1024x256 .f32) (x3 : Vec F S1024x2048 .f32) (x4 : Vec F S8x512x256 .f32) : FVec F S64x1 .f32 :=
  k0_pay17 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0))

/-- The mean projection of the input, the first output's contents. -/
def out5 (x0 : Vec F S64x1024 .f32) (x1 : Vec F S64x4096 .f32) (x2 : Vec F S1024x256 .f32) (x3 : Vec F S1024x2048 .f32) (x4 : Vec F S8x512x256 .f32) : Vec F S64x512 .f32 :=
  View.canon [⟨(Rect.unit (s := S64x512) ![0, 0] S64x512.size inb_S64x512_S64x512_0_0), k0_pay3 (View.ld x0 (Rect.unit (s := S64x1024) ![0, 0] S64x1024.size inb_S64x1024_S64x1024_0_0)) (View.ld x3 (Rect.unit (s := S1024x2048) ![0, 0] S1024x2048.size inb_S1024x2048_S1024x2048_0_0))⟩]

/-- The gates unit by unit, the second output's contents (the stores, last first). -/
def out6 (x0 : Vec F S64x1024 .f32) (x1 : Vec F S64x4096 .f32) (x2 : Vec F S1024x256 .f32) (x3 : Vec F S1024x2048 .f32) (x4 : Vec F S8x512x256 .f32) : Vec F S8x64x1 .f32 :=
  View.canon [⟨(Rect.unit (s := S8x64x1) ![7, 0, 0] S1x64x1.size inb_S8x64x1_S1x64x1_7_0_0), k0_pay32 (gateAll x0 x1 x2 x3 x4)⟩,
    ⟨(Rect.unit (s := S8x64x1) ![6, 0, 0] S1x64x1.size inb_S8x64x1_S1x64x1_6_0_0), k0_pay30 (gateAll x0 x1 x2 x3 x4)⟩,
    ⟨(Rect.unit (s := S8x64x1) ![5, 0, 0] S1x64x1.size inb_S8x64x1_S1x64x1_5_0_0), k0_pay28 (gateAll x0 x1 x2 x3 x4)⟩,
    ⟨(Rect.unit (s := S8x64x1) ![4, 0, 0] S1x64x1.size inb_S8x64x1_S1x64x1_4_0_0), k0_pay26 (gateAll x0 x1 x2 x3 x4)⟩,
    ⟨(Rect.unit (s := S8x64x1) ![3, 0, 0] S1x64x1.size inb_S8x64x1_S1x64x1_3_0_0), k0_pay24 (gateAll x0 x1 x2 x3 x4)⟩,
    ⟨(Rect.unit (s := S8x64x1) ![2, 0, 0] S1x64x1.size inb_S8x64x1_S1x64x1_2_0_0), k0_pay22 (gateAll x0 x1 x2 x3 x4)⟩,
    ⟨(Rect.unit (s := S8x64x1) ![1, 0, 0] S1x64x1.size inb_S8x64x1_S1x64x1_1_0_0), k0_pay20 (gateAll x0 x1 x2 x3 x4)⟩,
    ⟨(Rect.unit (s := S8x64x1) ![0, 0, 0] S1x64x1.size inb_S8x64x1_S1x64x1_0_0_0), k0_pay18 (gateCol x0 x1 x2 x3 x4)⟩]

/-- The masks unit by unit, the third output's contents (the stores, last first). -/
def out7 (x0 : Vec F S64x1024 .f32) (x1 : Vec F S64x4096 .f32) (x2 : Vec F S1024x256 .f32) (x3 : Vec F S1024x2048 .f32) (x4 : Vec F S8x512x256 .f32) : Vec F S8x64x1 .f32 :=
  View.canon [⟨(Rect.unit (s := S8x64x1) ![7, 0, 0] S1x64x1.size inb_S8x64x1_S1x64x1_7_0_0), k0_pay1 (k0_pay33 (maskAll x0 x1 x2 x3 x4))⟩,
    ⟨(Rect.unit (s := S8x64x1) ![6, 0, 0] S1x64x1.size inb_S8x64x1_S1x64x1_6_0_0), k0_pay31 (maskAll x0 x1 x2 x3 x4)⟩,
    ⟨(Rect.unit (s := S8x64x1) ![5, 0, 0] S1x64x1.size inb_S8x64x1_S1x64x1_5_0_0), k0_pay29 (maskAll x0 x1 x2 x3 x4)⟩,
    ⟨(Rect.unit (s := S8x64x1) ![4, 0, 0] S1x64x1.size inb_S8x64x1_S1x64x1_4_0_0), k0_pay27 (maskAll x0 x1 x2 x3 x4)⟩,
    ⟨(Rect.unit (s := S8x64x1) ![3, 0, 0] S1x64x1.size inb_S8x64x1_S1x64x1_3_0_0), k0_pay25 (maskAll x0 x1 x2 x3 x4)⟩,
    ⟨(Rect.unit (s := S8x64x1) ![2, 0, 0] S1x64x1.size inb_S8x64x1_S1x64x1_2_0_0), k0_pay23 (maskAll x0 x1 x2 x3 x4)⟩,
    ⟨(Rect.unit (s := S8x64x1) ![1, 0, 0] S1x64x1.size inb_S8x64x1_S1x64x1_1_0_0), k0_pay21 (maskAll x0 x1 x2 x3 x4)⟩,
    ⟨(Rect.unit (s := S8x64x1) ![0, 0, 0] S1x64x1.size inb_S8x64x1_S1x64x1_0_0_0), k0_pay19 (maskAll x0 x1 x2 x3 x4)⟩]

end Values

/-- One store of the whole buffer covers it. -/
theorem cover5 (p : Vec F S64x512 .f32) (y : S64x512.Idx) :
    ∃ pc ∈ ([⟨(Rect.unit (s := S64x512) ![0, 0] S64x512.size inb_S64x512_S64x512_0_0), p⟩] : List (View.Piece (Elt F) S64x512 .f32)), y ∈ pc.1.set :=
  View.cover_of_tiled [⟨(Rect.unit (s := S64x512) ![0, 0] S64x512.size inb_S64x512_S64x512_0_0), p⟩] S64x512.size (by rfl) y

/-- Eight stores, one per unit, cover a buffer of one column per unit. -/
theorem cover8 (p0 p1 p2 p3 p4 p5 p6 p7 : Vec F S1x64x1 .f32) (y : S8x64x1.Idx) :
    ∃ pc ∈ ([⟨(Rect.unit (s := S8x64x1) ![7, 0, 0] S1x64x1.size inb_S8x64x1_S1x64x1_7_0_0), p7⟩, ⟨(Rect.unit (s := S8x64x1) ![6, 0, 0] S1x64x1.size inb_S8x64x1_S1x64x1_6_0_0), p6⟩, ⟨(Rect.unit (s := S8x64x1) ![5, 0, 0] S1x64x1.size inb_S8x64x1_S1x64x1_5_0_0), p5⟩, ⟨(Rect.unit (s := S8x64x1) ![4, 0, 0] S1x64x1.size inb_S8x64x1_S1x64x1_4_0_0), p4⟩, ⟨(Rect.unit (s := S8x64x1) ![3, 0, 0] S1x64x1.size inb_S8x64x1_S1x64x1_3_0_0), p3⟩, ⟨(Rect.unit (s := S8x64x1) ![2, 0, 0] S1x64x1.size inb_S8x64x1_S1x64x1_2_0_0), p2⟩, ⟨(Rect.unit (s := S8x64x1) ![1, 0, 0] S1x64x1.size inb_S8x64x1_S1x64x1_1_0_0), p1⟩, ⟨(Rect.unit (s := S8x64x1) ![0, 0, 0] S1x64x1.size inb_S8x64x1_S1x64x1_0_0_0), p0⟩] : List (View.Piece (Elt F) S8x64x1 .f32)), y ∈ pc.1.set :=
  View.cover_of_tiled [⟨(Rect.unit (s := S8x64x1) ![7, 0, 0] S1x64x1.size inb_S8x64x1_S1x64x1_7_0_0), p7⟩, ⟨(Rect.unit (s := S8x64x1) ![6, 0, 0] S1x64x1.size inb_S8x64x1_S1x64x1_6_0_0), p6⟩, ⟨(Rect.unit (s := S8x64x1) ![5, 0, 0] S1x64x1.size inb_S8x64x1_S1x64x1_5_0_0), p5⟩, ⟨(Rect.unit (s := S8x64x1) ![4, 0, 0] S1x64x1.size inb_S8x64x1_S1x64x1_4_0_0), p4⟩, ⟨(Rect.unit (s := S8x64x1) ![3, 0, 0] S1x64x1.size inb_S8x64x1_S1x64x1_3_0_0), p3⟩, ⟨(Rect.unit (s := S8x64x1) ![2, 0, 0] S1x64x1.size inb_S8x64x1_S1x64x1_2_0_0), p2⟩, ⟨(Rect.unit (s := S8x64x1) ![1, 0, 0] S1x64x1.size inb_S8x64x1_S1x64x1_1_0_0), p1⟩, ⟨(Rect.unit (s := S8x64x1) ![0, 0, 0] S1x64x1.size inb_S8x64x1_S1x64x1_0_0_0), p0⟩] S1x64x1.size (by rfl) y

/-! ## The body's triple -/

set_option maxHeartbeats 1000000 in
/-- The body, its inputs' buffers at `x0` … `x4` and its outputs' at anything, leaves the inputs as they were and the
    outputs at `out5`, `out6`, `out7` of the inputs. -/
theorem kernelRun (c : Dev nD) (E : Set ℕ) (arg0 : Memref sig .tc .vmem S64x1024 .f32) (harg0 : arg0.IsWhole) (arg1 : Memref sig .tc .vmem S64x4096 .f32) (harg1 : arg1.IsWhole) (arg2 : Memref sig .tc .vmem S1024x256 .f32) (harg2 : arg2.IsWhole) (arg3 : Memref sig .tc .vmem S1024x2048 .f32) (harg3 : arg3.IsWhole) (arg4 : Memref sig .tc .vmem S8x512x256 .f32) (harg4 : arg4.IsWhole) (arg5 : Memref sig .tc .vmem S64x512 .f32) (harg5 : arg5.IsWhole) (arg6 : Memref sig .tc .vmem S8x64x1 .f32) (harg6 : arg6.IsWhole) (arg7 : Memref sig .tc .vmem S8x64x1 .f32) (harg7 : arg7.IsWhole)
    (x0 : Vec F S64x1024 .f32) (x1 : Vec F S64x4096 .f32) (x2 : Vec F S1024x256 .f32) (x3 : Vec F S1024x2048 .f32) (x4 : Vec F S8x512x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out5 x0 x1 x2 x3 x4) ∗ owns (c : Thread nD τ) arg6 fullShare (out6 x0 x1 x2 x3 x4) ∗ owns (c : Thread nD τ) arg7 fullShare (out7 x0 x1 x2 x3 x4)) -∗ K ⟨⟩))
      ⊢ wp frame (wpE (defs₀ (F := F)) Variants.none c none) E (cc0__stage1_kernel arg0 harg0 arg1 harg1 arg2 harg2 arg3 harg3 arg4 harg4 arg5 harg5 arg6 harg6 arg7 harg7) K := by
  simp only [cc0__stage1_kernel_eq_skeleton]; unfold cc0__stage1_kernel_skel
  simp only [k0_part6_eq_skeleton, k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover5 _)).trans ?_
    rfl
  isplitl [H6]
  · iexists _; isplitr
    swap; · iexact H6
    ipureintro
    refine (View.read_writes_eq_canon _ _ _ (cover8 _ _ _ _ _ _ _ _)).trans ?_
    rfl
  iexists _; isplitr
  swap; · iexact H7
  ipureintro
  refine (View.read_writes_eq_canon _ _ _ (cover8 _ _ _ _ _ _ _ _)).trans ?_
  rfl

/-! ## The pipeline's proof data -/

variable (V : Dev nD → Valuation τ sig (Elt F))

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as the region finds them, each input's buffer left as fetched, each output's
    left at the body's result, the scoped buffers the pipeline does not stage carried along. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
    | ⟨6, _⟩ => out6 (iblk V c 0 t) (iblk V c 1 t) (iblk V c 2 t) (iblk V c 3 t) (iblk V c 4 t)
    | ⟨7, _⟩ => out7 (iblk V c 0 t) (iblk V c 1 t) (iblk V c 2 t) (iblk V c 3 t) (iblk V c 4 t)
  Φ _ := Pipeline.scopedRest spec0 c
  q _ := fullShare
  owed _ := 0

/-- The data's arrays are the entry contents. -/
theorem A_eq (c : Dev nD) (w : Fin cfg0.W) : (dat V c).A w = V c (Pipeline.arrRef spec0 w) := by
  dsimp only [dat]

/-- Input 0 is left as fetched. -/
theorem after0 (c : Dev nD) (t : Fin cfg0.N) : (dat V c).after 0 t = iblk V c 0 t := by dsimp only [dat]
/-- Input 1 is left as fetched. -/
theorem after1 (c : Dev nD) (t : Fin cfg0.N) : (dat V c).after 1 t = iblk V c 1 t := by dsimp only [dat]
/-- Input 2 is left as fetched. -/
theorem after2 (c : Dev nD) (t : Fin cfg0.N) : (dat V c).after 2 t = iblk V c 2 t := by dsimp only [dat]
/-- Input 3 is left as fetched. -/
theorem after3 (c : Dev nD) (t : Fin cfg0.N) : (dat V c).after 3 t = iblk V c 3 t := by dsimp only [dat]
/-- Input 4 is left as fetched. -/
theorem after4 (c : Dev nD) (t : Fin cfg0.N) : (dat V c).after 4 t = iblk V c 4 t := by dsimp only [dat]
/-- Output 5 is left at the body's result. -/
theorem after5 (c : Dev nD) (t : Fin cfg0.N) : (dat V c).after 5 t = out5 (iblk V c 0 t) (iblk V c 1 t) (iblk V c 2 t) (iblk V c 3 t) (iblk V c 4 t) := by dsimp only [dat]
/-- Output 6 is left at the body's result. -/
theorem after6 (c : Dev nD) (t : Fin cfg0.N) : (dat V c).after 6 t = out6 (iblk V c 0 t) (iblk V c 1 t) (iblk V c 2 t) (iblk V c 3 t) (iblk V c 4 t) := by dsimp only [dat]
/-- Output 7 is left at the body's result. -/
theorem after7 (c : Dev nD) (t : Fin cfg0.N) : (dat V c).after 7 t = out7 (iblk V c 0 t) (iblk V c 1 t) (iblk V c 2 t) (iblk V c 3 t) (iblk V c 4 t) := by dsimp only [dat]
/-- Input 0 is found as fetched. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input 1 is found as fetched. -/
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input 2 is found as fetched. -/
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input 3 is found as fetched. -/
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input 4 is found as fetched. -/
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation -/

/-- The body at any point, restated over the windows one by one. -/
theorem bodyRun (c : Dev nD) (t : Fin cfg0.N) :
    iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))
    ⊢ wp frame (wpE (defs₀ (F := F)) Variants.none c none) Set.univ (bodyAt0 t) (fun _ =>
      iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))) := by
  unfold bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c Set.univ _ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation. -/
theorem body_obligation (c : Dev nD) : BodyObligation (dat (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (bodyRun V c t) rfl .rfl fun _ => .rfl

end Cert.Proof.KernelIdeal.Region0

end
-- ==== Proof.KernelIdealRegion1Values.lean ====
/-
  The second kernel region: the values its two phases compute — the new cell and hidden state of a unit and its slabs
  of keys, queries and values in the first, the communication attention in the second.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.Proof.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First phase: the intermediate `v7`. -/
def p1_v7 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x512 .f32 :=
  k1_pay5 (View.ld x1 (Rect.unit (s := S64x512) ![0, 0] S64x512.size inb_S64x512_S64x512_0_0))

/-- First phase: the intermediate `v9`. -/
def p1_v9 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x512 .f32 :=
  k1_pay6 (View.ld x2 (Rect.unit (s := S64x512) ![0, 0] S64x512.size inb_S64x512_S64x512_0_0))

/-- First phase: the intermediate `v15`. -/
def p1_v15 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x1 .f32 :=
  k1_pay7 m

/-- First phase: the intermediate `v30`. -/
def p1_v30 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x1024 .f32 :=
  k1_pay9 (View.ld x1 (Rect.unit (s := S64x512) ![0, 0] S64x512.size inb_S64x512_S64x512_0_0)) a (View.ld x3 (Rect.unit (s := S64x512) ![0, 0] S64x512.size inb_S64x512_S64x512_0_0)) (View.ld x6 (Rect.unit (s := S1x512x1024) ![0, 0, 0] S1x512x1024.size inb_S1x512x1024_S1x512x1024_0_0_0)) (View.ld x8 (Rect.unit (s := S1x512x1024) ![0, 0, 0] S1x512x1024.size inb_S1x512x1024_S1x512x1024_0_0_0))

/-- First phase: the intermediate `v35`. -/
def p1_v35 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x1024 .f32 :=
  k1_pay10 a (View.ld x3 (Rect.unit (s := S64x512) ![0, 0] S64x512.size inb_S64x512_S64x512_0_0)) (View.ld x7 (Rect.unit (s := S1x512x1024) ![0, 0, 0] S1x512x1024.size inb_S1x512x1024_S1x512x1024_0_0_0))

/-- First phase: the intermediate `v38`. -/
def p1_v38 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x512 .bf16 :=
  k1_pay11 (View.ld x1 (Rect.unit (s := S64x512) ![0, 0] S64x512.size inb_S64x512_S64x512_0_0))

/-- First phase: the intermediate `v39`. -/
def p1_v39 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S512x1024 .bf16 :=
  k1_pay12 (View.ld x9 (Rect.unit (s := S1x512x1024) ![0, 0, 0] S1x512x1024.size inb_S1x512x1024_S1x512x1024_0_0_0))

/-- First phase: the intermediate `cst_25`. -/
def p1_cst_25 (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x1024 .f32 :=
  constant S64x1024 .f32 0x00000000#32

/-- First phase: the new cell state. -/
def cNew (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : FVec F S64x512 .f32 :=
  k1_pay15 (p1_v9 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9)

/-- First phase: the contents of the cell state's output window. -/
def csOut (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : Vec F S64x512 .f32 :=
  View.canon [⟨(Rect.unit (s := S64x512) ![0, 0] S64x512.size inb_S64x512_S64x512_0_0), (k1_pay16 (p1_v9 x1 x2 x3 a m x6 x7 x8 x9) (p1_v15 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9))⟩]

/-- First phase: the slab of new hidden states the scratch keeps. -/
def hbSlab (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) : Vec F S1x64x512 .f32 :=
  (k1_pay17 (p1_v7 x1 x2 x3 a m x6 x7 x8 x9) (p1_v9 x1 x2 x3 a m x6 x7 x8 x9) (p1_v15 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9))

/-- First phase: the slab of keys the scratch keeps. -/
def keySlab (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) (x10 : Vec F S1x512x256 .f32) : Vec F S1x64x256 .f32 :=
  (k1_pay18 (p1_v9 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9) (View.ld x10 (Rect.unit (s := S1x512x256) ![0, 0, 0] S1x512x256.size inb_S1x512x256_S1x512x256_0_0_0)))

/-- First phase: the slab of queries the scratch keeps. -/
def qSlab (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) (x11 : Vec F S1x512x256 .f32) : Vec F S1x64x256 .f32 :=
  k1_pay1 (cNew x1 x2 x3 a m x6 x7 x8 x9) (View.ld x11 (Rect.unit (s := S1x512x256) ![0, 0, 0] S1x512x256.size inb_S1x512x256_S1x512x256_0_0_0))

/-- First phase: the left half of the slab of values the scratch keeps. -/
def valSlabA (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) (x12 : Vec F S1x512x1024 .f32) : Vec F S1x64x1024 .f32 :=
  k1_pay2 (cNew x1 x2 x3 a m x6 x7 x8 x9) (View.ld x12 (Rect.unit (s := S1x512x1024) ![0, 0, 0] S1x512x1024.size inb_S1x512x1024_S1x512x1024_0_0_0))

/-- First phase: the right half of the slab of values the scratch keeps. -/
def valSlabB (x1 : Vec F S64x512 .f32) (x2 : Vec F S64x512 .f32) (x3 : Vec F S64x512 .f32) (a : Vec F S1x64x1 .f32) (m : Vec F S1x64x1 .f32) (x6 : Vec F S1x512x1024 .f32) (x7 : Vec F S1x512x1024 .f32) (x8 : Vec F S1x512x1024 .f32) (x9 : Vec F S1x512x1024 .f32) (x13 : Vec F S1x512x1024 .f32) : Vec F S1x64x1024 .f32 :=
  k1_pay3 (cNew x1 x2 x3 a m x6 x7 x8 x9) (View.ld x13 (Rect.unit (s := S1x512x1024) ![0, 0, 0] S1x512x1024.size inb_S1x512x1024_S1x512x1024_0_0_0))

/-- Second phase: the intermediate `v9`. -/
def p2_v9 (q : Vec F S1x64x256 .f32) (m : Vec F S1x64x1 .f32) (K : Vec F S8x64x256 .f32) (W : Vec F S8x64x2048 .f32) (x14 : Vec F S1x1024x512 .f32) : FVec F S64x256 .f32 :=
  k1_pay19 q

/-- Second phase: the intermediate `v12`. -/
def p2_v12 (q : Vec F S1x64x256 .f32) (m : Vec F S1x64x1 .f32) (K : Vec F S8x64x256 .f32) (W : Vec F S8x64x2048 .f32) (x14 : Vec F S1x1024x512 .f32) : FVec F S64x1 .f32 :=
  k1_pay20 m

/-- Second phase: the intermediate `v13`. -/
def p2_v13 (q : Vec F S1x64x256 .f32) (m : Vec F S1x64x1 .f32) (K : Vec F S8x64x256 .f32) (W : Vec F S8x64x2048 .f32) (x14 : Vec F S1x1024x512 .f32) : FVec F S64x64 .f32 :=
  k1_pay21 q

/-- Second phase: the intermediate `v18`. -/
def p2_v18 (q : Vec F S1x64x256 .f32) (m : Vec F S1x64x1 .f32) (K : Vec F S8x64x256 .f32) (W : Vec F S8x64x2048 .f32) (x14 : Vec F S1x1024x512 .f32) : FVec F S64x1 .f32 :=
  k1_pay22 q (View.ld K (Rect.unit (s := S8x64x256) ![0, 0, 0] S1x64x64.size inb_S8x64x256_S1x64x64_0_0_0))

/-- Second phase: the intermediate `v23`. -/
def p2_v23 (q : Vec F S1x64x256 .f32) (m : Vec F S1x64x1 .f32) (K : Vec F S8x64x256 .f32) (W : Vec F S8x64x2048 .f32) (x14 : Vec F S1x1024x512 .f32) : FVec F S64x1 .f32 :=
  k1_pay23 q (View.ld K (Rect.unit (s := S8x64x256) ![1, 0, 0] S1x64x64.size inb_S8x64x256_S1x64x64_1_0_0))

/-- Second phase: the intermediate `v28`. -/
def p2_v28 (q : Vec F S1x64x256 .f32) (m : Vec F S1x64x1 .f32) (K : Vec F S8x64x256 .f32) (W : Vec F S8x64x2048 .f32) (x14 : Vec F S1x1024x512 .f32) : FVec F S64x1 .f32 :=
  k1_pay24 q (View.ld K (Rect.unit (s := S8x64x256) ![2, 0, 0] S1x64x64.size inb_S8x64x256_S1x64x64_2_0_0))

/-- Second phase: the intermediate `v33`. -/
def p2_v33 (q : Vec F S1x64x256 .f32) (m : Vec F S1x64x1 .f32) (K : Vec F S8x64x256 .f32) (W : Vec F S8x64x2048 .f32) (x14 : Vec F S1x1024x512 .f32) : FVec F S64x1 .f32 :=
  k1_pay25 q (View.ld K (Rect.unit (s := S8x64x256) ![3, 0, 0] S1x64x64.size inb_S8x64x256_S1x64x64_3_0_0))

/-- Second phase: the intermediate `v38`. -/
def p2_v38 (q : Vec F S1x64x256 .f32) (m : Vec F S1x64x1 .f32) (K : Vec F S8x64x256 .f32) (W : Vec F S8x64x2048 .f32) (x14 : Vec F S1x1024x512 .f32) : FVec F S64x1 .f32 :=
  k1_pay26 q (View.ld K (Rect.unit (s := S8x64x256) ![4, 0, 0] S1x64x64.size inb_S8x64x256_S1x64x64_4_0_0))

/-- Second phase: the intermediate `v65`. -/
def p2_v65 (q : Vec F S1x64x256 .f32) (m : Vec F S1x64x1 .f32) (K : Vec F S8x64x256 .f32) (W : Vec F S8x64x2048 .f32) (x14 : Vec F S1x1024x512 .f32) : FVec F S64x8 .f32 :=
  k1_pay27 (p2_v13 q m K W x14) (p2_v18 q m K W x14) (p2_v23 q m K W x14) (p2_v28 q m K W x14) (p2_v33 q m K W x14) (p2_v38 q m K W x14) (View.ld K (Rect.unit (s := S8x64x256) ![5, 0, 0] S1x64x64.size inb_S8x64x256_S1x64x64_5_0_0)) (View.ld K (Rect.unit (s := S8x64x256) ![6, 0, 0] S1x64x64.size inb_S8x64x256_S1x64x64_6_0_0)) (View.ld K (Rect.unit (s := S8x64x256) ![7, 0, 0] S1x64x64.size inb_S8x64x256_S1x64x64_7_0_0))

/-- Second phase: the intermediate `v76`. -/
def p2_v76 (q : Vec F S1x64x256 .f32) (m : Vec F S1x64x1 .f32) (K : Vec F S8x64x256 .f32) (W : Vec F S8x64x2048 .f32) (x14 : Vec F S1x1024x512 .f32) : FVec F S64x512 .f32 :=
  k1_pay28 (p2_v13 q m K W x14) (p2_v18 q m K W x14) (p2_v23 q m K W x14) (p2_v28 q m K W x14) (p2_v33 q m K W x14) (p2_v38 q m K W x14) (View.ld K (Rect.unit (s := S8x64x256) ![5, 0, 0] S1x64x64.size inb_S8x64x256_S1x64x64_5_0_0)) (View.ld K (Rect.unit (s := S8x64x256) ![6, 0, 0] S1x64x64.size inb_S8x64x256_S1x64x64_6_0_0)) (View.ld K (Rect.unit (s := S8x64x256) ![7, 0, 0] S1x64x64.size inb_S8x64x256_S1x64x64_7_0_0)) (View.ld W (Rect.unit (s := S8x64x2048) ![0, 0, 0] S1x64x512.size inb_S8x64x2048_S1x64x512_0_0_0)) (View.ld W (Rect.unit (s := S8x64x2048) ![1, 0, 0] S1x64x512.size inb_S8x64x2048_S1x64x512_1_0_0))

/-- Second phase: the intermediate `v77`. -/
def p2_v77 (q : Vec F S1x64x256 .f32) (m : Vec F S1x64x1 .f32) (K : Vec F S8x64x256 .f32) (W : Vec F S8x64x2048 .f32) (x14 : Vec F S1x1024x512 .f32) : FVec F S64x1 .f32 :=
  k1_pay29 (p2_v13 q m K W x14) (p2_v18 q m K W x14) (p2_v23 q m K W x14) (p2_v28 q m K W x14) (p2_v33 q m K W x14) (p2_v38 q m K W x14) (View.ld K (Rect.unit (s := S8x64x256) ![5, 0, 0] S1x64x64.size inb_S8x64x256_S1x64x64_5_0_0)) (View.ld K (Rect.unit (s := S8x64x256) ![6, 0, 0] S1x64x64.size inb_S8x64x256_S1x64x64_6_0_0)) (View.ld K (Rect.unit (s := S8x64x256) ![7, 0, 0] S1x64x64.size inb_S8x64x256_S1x64x64_7_0_0))

/-- Second phase: the intermediate `v112`. -/
def p2_v112 (q : Vec F S1x64x256 .f32) (m : Vec F S1x64x1 .f32) (K : Vec F S8x64x256 .f32) (W : Vec F S8x64x2048 .f32) (x14 : Vec F S1x1024x512 .f32) : FVec F S64x512 .f32 :=
  k1_pay30 (p2_v65 q m K W x14) (p2_v76 q m K W x14) (p2_v77 q m K W x14) (View.ld W (Rect.unit (s := S8x64x2048) ![2, 0, 0] S1x64x512.size inb_S8x64x2048_S1x64x512_2_0_0)) (View.ld W (Rect.unit (s := S8x64x2048) ![3, 0, 0] S1x64x512.size inb_S8x64x2048_S1x64x512_3_0_0)) (View.ld W (Rect.unit (s := S8x64x2048) ![4, 0, 0] S1x64x512.size inb_S8x64x2048_S1x64x512_4_0_0)) (View.ld W (Rect.unit (s := S8x64x2048) ![5, 0, 0] S1x64x512.size inb_S8x64x2048_S1x64x512_5_0_0)) (View.ld W (Rect.unit (s := S8x64x2048) ![6, 0, 0] S1x64x512.size inb_S8x64x2048_S1x64x512_6_0_0)) (View.ld W (Rect.unit (s := S8x64x2048) ![7, 0, 0] S1x64x512.size inb_S8x64x2048_S1x64x512_7_0_0))

/-- Second phase: the intermediate `v113`. -/
def p2_v113 (q : Vec F S1x64x256 .f32) (m : Vec F S1x64x1 .f32) (K : Vec F S8x64x256 .f32) (W : Vec F S8x64x2048 .f32) (x14 : Vec F S1x1024x512 .f32) : FVec F S64x64 .f32 :=
  k1_pay31 (p2_v9 q m K W x14)

/-- Second phase: the intermediate `v117`. -/
def p2_v117 (q : Vec F S1x64x256 .f32) (m : Vec F S1x64x1 .f32) (K : Vec F S8x64x256 .f32) (W : Vec F S8x64x2048 .f32) (x14 : Vec F S1x1024x512 .f32) : FVec F S64 .f32 :=
  k1_pay32 (p2_v9 q m K W x14) (View.ld K (Rect.unit (s := S8x64x256) ![0, 0, 64] S1x64x64.size inb_S8x64x256_S1x64x64_0_0_64))

/-- Second phase: the intermediate `v118`. -/
def p2_v118 (q : Vec F S1x64x256 .f32) (m : Vec F S1x64x1 .f32) (K : Vec F S8x64x256 .f32) (W : Vec F S8x64x2048 .f32) (x14 : Vec F S1x1024x512 .f32) : FVec F S64x1 .f32 :=
  k1_pay33 (p2_v117 q m K W x14)

/-- Second phase: the intermediate `v123`. -/
def p2_v123 (q : Vec F S1x64x256 .f32) (m : Vec F S1x64x1 .f32) (K : Vec F S8x64x256 .f32) (W : Vec F S8x64x2048 .f32) (x14 : Vec F S1x1024x512 .f32) : FVec F S64x1 .f32 :=
  k1_pay34 (p2_v113 q m K W x14) (View.ld K (Rect.unit (s := S8x64x256) ![1, 0, 64] S1x64x64.size inb_S8x64x256_S1x64x64_1_0_64))

/-- Second phase: the intermediate `v128`. -/
def p2_v128 (q : Vec F S1x64x256 .f32) (m : Vec F S1x64x1 .f32) (K : Vec F S8x64x256 .f32) (W : Vec F S8x64x2048 .f32) (x14 : Vec F S1x1024x512 .f32) : FVec F S64x1 .f32 :=
  k1_pay35 (p2_v113 q m K W x14) (View.ld K (Rect.unit (s := S8x64x256) ![2, 0, 64] S1x64x64.size inb_S8x64x256_S1x64x64_2_0_64))

/-- Second phase: the intermediate `v133`. -/
def p2_v133 (q : Vec F S1x64x256 .f32) (m : Vec F S1x64x1 .f32) (K : Vec F S8x64x256 .f32) (W : Vec F S8x64x2048 .f32) (x14 : Vec F S1x1024x512 .f32) : FVec F S64x1 .f32 :=
  k1_pay36 (p2_v113 q m K W x14) (View.ld K (Rect.unit (s := S8x64x256) ![3, 0, 64] S1x64x64.size inb_S8x64x256_S1x64x64_3_0_64))

/-- Second phase: the intermediate `v138`. -/
def p2_v138 (q : Vec F S1x64x256 .f32) (m : Vec F S1x64x1 .f32) (K : Vec F S8x64x256 .f32) (W : Vec F S8x64x2048 .f32) (x14 : Vec F S1x1024x512 .f32) : FVec F S64x1 .f32 :=
  k1_pay37 (p2_v113 q m K W x14) (View.ld K (Rect.unit (s := S8x64x256) ![4, 0, 64] S1x64x64.size inb_S8x64x256_S1x64x64_4_0_64))

/-- Second phase: the intermediate `v143`. -/
def p2_v143 (q : Vec F S1x64x256 .f32) (m : Vec F S1x64x1 .f32) (K : Vec F S8x64x256 .f32) (W : Vec F S8x64x2048 .f32) (x14 : Vec F S1x1024x512 .f32) : FVec F S64x1 .f32 :=
  k1_pay38 (p2_v113 q m K W x14) (View.ld K (Rect.unit (s := S8x64x256) ![5, 0, 64] S1x64x64.size inb_S8x64x256_S1x64x64_5_0_64))

/-- Second phase: the intermediate `v148`. -/
def p2_v148 (q : Vec F S1x64x256 .f32) (m : Vec F S1x64x1 .f32) (K : Vec F S8x64x256 .f32) (W : Vec F S8x64x2048 .f32) (x14 : Vec F S1x1024x512 .f32) : FVec F S64x1 .f32 :=
  k1_pay39 (p2_v113 q m K W x14) (View.ld K (Rect.unit (s := S8x64x256) ![6, 0, 64] S1x64x64.size inb_S8x64x256_S1x64x64_6_0_64))

/-- Second phase: the intermediate `v150`. -/
def p2_v150 (q : Vec F S1x64x256 .f32) (m : Vec F S1x64x1 .f32) (K : Vec F S8x64x256 .f32) (W : Vec F S8x64x2048 .f32) (x14 : Vec F S1x1024x512 .f32) : FVec F S64x64 .f32 :=
  k1_pay40 (View.ld K (Rect.unit (s := S8x64x256) ![7, 0, 64] S1x64x64.size inb_S8x64x256_S1x64x64_7_0_64))

/-- Second phase: the intermediate `v165`. -/
def p2_v165 (q : Vec F S1x64x256 .f32) (m : Vec F S1x64x1 .f32) (K : Vec F S8x64x256 .f32) (W : Vec F S8x64x2048 .f32) (x14 : Vec F S1x1024x512 .f32) : FVec F S64x8 .f32 :=
  k1_pay41 (p2_v113 q m K W x14) (p2_v118 q m K W x14) (p2_v123 q m K W x14) (p2_v128 q m K W x14) (p2_v133 q m K W x14) (p2_v138 q m K W x14) (p2_v143 q m K W x14) (p2_v148 q m K W x14) (p2_v150 q m K W x14)

/-- Second phase: the intermediate `v188`. -/
def p2_v188 (q : Vec F S1x64x256 .f32) (m : Vec F S1x64x1 .f32) (K : Vec F S8x64x256 .f32) (W : Vec F S8x64x2048 .f32) (x14 : Vec F S1x1024x512 .f32) : FVec F S64x512 .f32 :=
  k1_pay42 (p2_v113 q m K W x14) (p2_v118 q m K W x14) (p2_v123 q m K W x14) (p2_v128 q m K W x14) (p2_v133 q m K W x14) (p2_v138 q m K W x14) (p2_v143 q m K W x14) (p2_v148 q m K W x14) (p2_v150 q m K W x14) (View.ld W (Rect.unit (s := S8x64x2048) ![0, 0, 512] S1x64x512.size inb_S8x64x2048_S1x64x512_0_0_512)) (View.ld W (Rect.unit (s := S8x64x2048) ![1, 0, 512] S1x64x512.size inb_S8x64x2048_S1x64x512_1_0_512)) (View.ld W (Rect.unit (s := S8x64x2048) ![2, 0, 512] S1x64x512.size inb_S8x64x2048_S1x64x512_2_0_512)) (View.ld W (Rect.unit (s := S8x64x2048) ![3, 0, 512] S1x64x512.size inb_S8x64x2048_S1x64x512_3_0_512))

/-- Second phase: the intermediate `v189`. -/
def p2_v189 (q : Vec F S1x64x256 .f32) (m : Vec F S1x64x1 .f32) (K : Vec F S8x64x256 .f32) (W : Vec F S8x64x2048 .f32) (x14 : Vec F S1x1024x512 .f32) : FVec F S64x1 .f32 :=
  k1_pay43 (p2_v113 q m K W x14) (p2_v118 q m K W x14) (p2_v123 q m K W x14) (p2_v128 q m K W x14) (p2_v133 q m K W x14) (p2_v138 q m K W x14) (p2_v143 q m K W x14) (p2_v148 q m K W x14) (p2_v150 q m K W x14)

/-- Second phase: the intermediate `v191`. -/
def p2_v191 (q : Vec F S1x64x256 .f32) (m : Vec F S1x64x1 .f32) (K : Vec F S8x64x256 .f32) (W : Vec F S8x64x2048 .f32) (x14 : Vec F S1x1024x512 .f32) : FVec F S64x512 .f32 :=
  k1_pay44 (View.ld W (Rect.unit (s := S8x64x2048) ![4, 0, 512] S1x64x512.size inb_S8x64x2048_S1x64x512_4_0_512))

/-- Second phase: the intermediate `v212`. -/
def p2_v212 (q : Vec F S1x64x256 .f32) (m : Vec F S1x64x1 .f32) (K : Vec F S8x64x256 .f32) (W : Vec F S8x64x2048 .f32) (x14 : Vec F S1x1024x512 .f32) : FVec F S64x512 .f32 :=
  k1_pay45 (p2_v165 q m K W x14) (p2_v188 q m K W x14) (p2_v189 q m K W x14) (p2_v191 q m K W x14) (View.ld W (Rect.unit (s := S8x64x2048) ![5, 0, 512] S1x64x512.size inb_S8x64x2048_S1x64x512_5_0_512)) (View.ld W (Rect.unit (s := S8x64x2048) ![6, 0, 512] S1x64x512.size inb_S8x64x2048_S1x64x512_6_0_512)) (View.ld W (Rect.unit (s := S8x64x2048) ![7, 0, 512] S1x64x512.size inb_S8x64x2048_S1x64x512_7_0_512))

/-- Second phase: the intermediate `v213`. -/
def p2_v213 (q : Vec F S1x64x256 .f32) (m : Vec F S1x64x1 .f32) (K : Vec F S8x64x256 .f32) (W : Vec F S8x64x2048 .f32) (x14 : Vec F S1x1024x512 .f32) : FVec F S64x64 .f32 :=
  k1_pay46 (p2_v9 q m K W x14)

/-- Second phase: the intermediate `v218`. -/
def p2_v218 (q : Vec F S1x64x256 .f32) (m : Vec F S1x64x1 .f32) (K : Vec F S8x64x256 .f32) (W : Vec F S8x64x2048 .f32) (x14 : Vec F S1x1024x512 .f32) : FVec F S64x1 .f32 :=
  k1_pay47 (p2_v9 q m K W x14) (View.ld K (Rect.unit (s := S8x64x256) ![0, 0, 128] S1x64x64.size inb_S8x64x256_S1x64x64_0_0_128))

/-- Second phase: the intermediate `v223`. -/
def p2_v223 (q : Vec F S1x64x256 .f32) (m : Vec F S1x64x1 .f32) (K : Vec F S8x64x256 .f32) (W : Vec F S8x64x2048 .f32) (x14 : Vec F S1x1024x512 .f32) : FVec F S64x1 .f32 :=
  k1_pay48 (p2_v9 q m K W x14) (View.ld K (Rect.unit (s := S8x64x256) ![1, 0, 128] S1x64x64.size inb_S8x64x256_S1x64x64_1_0_128))

/-- Second phase: the intermediate `v228`. -/
def p2_v228 (q : Vec F S1x64x256 .f32) (m : Vec F S1x64x1 .f32) (K : Vec F S8x64x256 .f32) (W : Vec F S8x64x2048 .f32) (x14 : Vec F S1x1024x512 .f32) : FVec F S64x1 .f32 :=
  k1_pay49 (p2_v9 q m K W x14) (View.ld K (Rect.unit (s := S8x64x256) ![2, 0, 128] S1x64x64.size inb_S8x64x256_S1x64x64_2_0_128))

/-- Second phase: the intermediate `v265`. -/
def p2_v265 (q : Vec F S1x64x256 .f32) (m : Vec F S1x64x1 .f32) (K : Vec F S8x64x256 .f32) (W : Vec F S8x64x2048 .f32) (x14 : Vec F S1x1024x512 .f32) : FVec F S64x8 .f32 :=
  k1_pay50 (p2_v213 q m K W x14) (p2_v218 q m K W x14) (p2_v223 q m K W x14) (p2_v228 q m K W x14) (View.ld K (Rect.unit (s := S8x64x256) ![3, 0, 128] S1x64x64.size inb_S8x64x256_S1x64x64_3_0_128)) (View.ld K (Rect.unit (s := S8x64x256) ![4, 0, 128] S1x64x64.size inb_S8x64x256_S1x64x64_4_0_128)) (View.ld K (Rect.unit (s := S8x64x256) ![5, 0, 128] S1x64x64.size inb_S8x64x256_S1x64x64_5_0_128)) (View.ld K (Rect.unit (s := S8x64x256) ![6, 0, 128] S1x64x64.size inb_S8x64x256_S1x64x64_6_0_128)) (View.ld K (Rect.unit (s := S8x64x256) ![7, 0, 128] S1x64x64.size inb_S8x64x256_S1x64x64_7_0_128))

/-- Second phase: the intermediate `v266`. -/
def p2_v266 (q : Vec F S1x64x256 .f32) (m : Vec F S1x64x1 .f32) (K : Vec F S8x64x256 .f32) (W : Vec F S8x64x2048 .f32) (x14 : Vec F S1x1024x512 .f32) : FVec F S64x1 .f32 :=
  k1_pay51 (p2_v213 q m K W x14) (p2_v218 q m K W x14) (p2_v223 q m K W x14) (p2_v228 q m K W x14) (View.ld K (Rect.unit (s := S8x64x256) ![3, 0, 128] S1x64x64.size inb_S8x64x256_S1x64x64_3_0_128)) (View.ld K (Rect.unit (s := S8x64x256) ![4, 0, 128] S1x64x64.size inb_S8x64x256_S1x64x64_4_0_128)) (View.ld K (Rect.unit (s := S8x64x256) ![5, 0, 128] S1x64x64.size inb_S8x64x256_S1x64x64_5_0_128)) (View.ld K (Rect.unit (s := S8x64x256) ![6, 0, 128] S1x64x64.size inb_S8x64x256_S1x64x64_6_0_128)) (View.ld K (Rect.unit (s := S8x64x256) ![7, 0, 128] S1x64x64.size inb_S8x64x256_S1x64x64_7_0_128))

/-- Second phase: the intermediate `v306`. -/
def p2_v306 (q : Vec F S1x64x256 .f32) (m : Vec F S1x64x1 .f32) (K : Vec F S8x64x256 .f32) (W : Vec F S8x64x2048 .f32) (x14 : Vec F S1x1024x512 .f32) : FVec F S64x512 .f32 :=
  k1_pay52 (p2_v265 q m K W x14) (p2_v266 q m K W x14) (View.ld W (Rect.unit (s := S8x64x2048) ![0, 0, 1024] S1x64x512.size inb_S8x64x2048_S1x64x512_0_0_1024)) (View.ld W (Rect.unit (s := S8x64x2048) ![1, 0, 1024] S1x64x512.size inb_S8x64x2048_S1x64x512_1_0_1024)) (View.ld W (Rect.unit (s := S8x64x2048) ![2, 0, 1024] S1x64x512.size inb_S8x64x2048_S1x64x512_2_0_1024)) (View.ld W (Rect.unit (s := S8x64x2048) ![3, 0, 1024] S1x64x512.size inb_S8x64x2048_S1x64x512_3_0_1024)) (View.ld W (Rect.unit (s := S8x64x2048) ![4, 0, 1024] S1x64x512.size inb_S8x64x2048_S1x64x512_4_0_1024)) (View.ld W (Rect.unit (s := S8x64x2048) ![5, 0, 1024] S1x64x512.size inb_S8x64x2048_S1x64x512_5_0_1024)) (View.ld W (Rect.unit (s := S8x64x2048) ![6, 0, 1024] S1x64x512.size inb_S8x64x2048_S1x64x512_6_0_1024))

/-- Second phase: the intermediate `v312`. -/
def p2_v312 (q : Vec F S1x64x256 .f32) (m : Vec F S1x64x1 .f32) (K : Vec F S8x64x256 .f32) (W : Vec F S8x64x2048 .f32) (x14 : Vec F S1x1024x512 .f32) : FVec F S64x512 .f32 :=
  k1_pay53 (p2_v265 q m K W x14) (p2_v306 q m K W x14) (View.ld W (Rect.unit (s := S8x64x2048) ![7, 0, 1024] S1x64x512.size inb_S8x64x2048_S1x64x512_7_0_1024))

/-- Second phase: the intermediate `v313`. -/
def p2_v313 (q : Vec F S1x64x256 .f32) (m : Vec F S1x64x1 .f32) (K : Vec F S8x64x256 .f32) (W : Vec F S8x64x2048 .f32) (x14 : Vec F S1x1024x512 .f32) : FVec F S64x64 .f32 :=
  k1_pay54 (p2_v9 q m K W x14)

/-- Second phase: the intermediate `v318`. -/
def p2_v318 (q : Vec F S1x64x256 .f32) (m : Vec F S1x64x1 .f32) (K : Vec F S8x64x256 .f32) (W : Vec F S8x64x2048 .f32) (x14 : Vec F S1x1024x512 .f32) : FVec F S64x1 .f32 :=
  k1_pay55 (p2_v9 q m K W x14) (View.ld K (Rect.unit (s := S8x64x256) ![0, 0, 192] S1x64x64.size inb_S8x64x256_S1x64x64_0_0_192))

/-- Second phase: the intermediate `v323`. -/
def p2_v323 (q : Vec F S1x64x256 .f32) (m : Vec F S1x64x1 .f32) (K : Vec F S8x64x256 .f32) (W : Vec F S8x64x2048 .f32) (x14 : Vec F S1x1024x512 .f32) : FVec F S64x1 .f32 :=
  k1_pay56 (p2_v9 q m K W x14) (View.ld K (Rect.unit (s := S8x64x256) ![1, 0, 192] S1x64x64.size inb_S8x64x256_S1x64x64_1_0_192))

/-- Second phase: the intermediate `v328`. -/
def p2_v328 (q : Vec F S1x64x256 .f32) (m : Vec F S1x64x1 .f32) (K : Vec F S8x64x256 .f32) (W : Vec F S8x64x2048 .f32) (x14 : Vec F S1x1024x512 .f32) : FVec F S64x1 .f32 :=
  k1_pay57 (p2_v9 q m K W x14) (View.ld K (Rect.unit (s := S8x64x256) ![2, 0, 192] S1x64x64.size inb_S8x64x256_S1x64x64_2_0_192))

/-- Second phase: the intermediate `v333`. -/
def p2_v333 (q : Vec F S1x64x256 .f32) (m : Vec F S1x64x1 .f32) (K : Vec F S8x64x256 .f32) (W : Vec F S8x64x2048 .f32) (x14 : Vec F S1x1024x512 .f32) : FVec F S64x1 .f32 :=
  k1_pay58 (p2_v9 q m K W x14) (View.ld K (Rect.unit (s := S8x64x256) ![3, 0, 192] S1x64x64.size inb_S8x64x256_S1x64x64_3_0_192))

/-- Second phase: the intermediate `v338`. -/
def p2_v338 (q : Vec F S1x64x256 .f32) (m : Vec F S1x64x1 .f32) (K : Vec F S8x64x256 .f32) (W : Vec F S8x64x2048 .f32) (x14 : Vec F S1x1024x512 .f32) : FVec F S64x1 .f32 :=
  k1_pay59 (p2_v9 q m K W x14) (View.ld K (Rect.unit (s := S8x64x256) ![4, 0, 192] S1x64x64.size inb_S8x64x256_S1x64x64_4_0_192))

/-- Second phase: the intermediate `v340`. -/
def p2_v340 (q : Vec F S1x64x256 .f32) (m : Vec F S1x64x1 .f32) (K : Vec F S8x64x256 .f32) (W : Vec F S8x64x2048 .f32) (x14 : Vec F S1x1024x512 .f32) : FVec F S64x64 .f32 :=
  k1_pay60 (View.ld K (Rect.unit (s := S8x64x256) ![5, 0, 192] S1x64x64.size inb_S8x64x256_S1x64x64_5_0_192))

/-- Second phase: the intermediate `v365`. -/
def p2_v365 (q : Vec F S1x64x256 .f32) (m : Vec F S1x64x1 .f32) (K : Vec F S8x64x256 .f32) (W : Vec F S8x64x2048 .f32) (x14 : Vec F S1x1024x512 .f32) : FVec F S64x8 .f32 :=
  k1_pay61 (p2_v313 q m K W x14) (p2_v318 q m K W x14) (p2_v323 q m K W x14) (p2_v328 q m K W x14) (p2_v333 q m K W x14) (p2_v338 q m K W x14) (p2_v340 q m K W x14) (View.ld K (Rect.unit (s := S8x64x256) ![6, 0, 192] S1x64x64.size inb_S8x64x256_S1x64x64_6_0_192)) (View.ld K (Rect.unit (s := S8x64x256) ![7, 0, 192] S1x64x64.size inb_S8x64x256_S1x64x64_7_0_192))

/-- Second phase: the intermediate `v376`. -/
def p2_v376 (q : Vec F S1x64x256 .f32) (m : Vec F S1x64x1 .f32) (K : Vec F S8x64x256 .f32) (W : Vec F S8x64x2048 .f32) (x14 : Vec F S1x1024x512 .f32) : FVec F S64x512 .f32 :=
  k1_pay62 (p2_v313 q m K W x14) (p2_v318 q m K W x14) (p2_v323 q m K W x14) (p2_v328 q m K W x14) (p2_v333 q m K W x14) (p2_v338 q m K W x14) (p2_v340 q m K W x14) (View.ld K (Rect.unit (s := S8x64x256) ![6, 0, 192] S1x64x64.size inb_S8x64x256_S1x64x64_6_0_192)) (View.ld K (Rect.unit (s := S8x64x256) ![7, 0, 192] S1x64x64.size inb_S8x64x256_S1x64x64_7_0_192)) (View.ld W (Rect.unit (s := S8x64x2048) ![0, 0, 1536] S1x64x512.size inb_S8x64x2048_S1x64x512_0_0_1536)) (View.ld W (Rect.unit (s := S8x64x2048) ![1, 0, 1536] S1x64x512.size inb_S8x64x2048_S1x64x512_1_0_1536))

/-- Second phase: the intermediate `v377`. -/
def p2_v377 (q : Vec F S1x64x256 .f32) (m : Vec F S1x64x1 .f32) (K : Vec F S8x64x256 .f32) (W : Vec F S8x64x2048 .f32) (x14 : Vec F S1x1024x512 .f32) : FVec F S64x1 .f32 :=
  k1_pay63 (p2_v313 q m K W x14) (p2_v318 q m K W x14) (p2_v323 q m K W x14) (p2_v328 q m K W x14) (p2_v333 q m K W x14) (p2_v338 q m K W x14) (p2_v340 q m K W x14) (View.ld K (Rect.unit (s := S8x64x256) ![6, 0, 192] S1x64x64.size inb_S8x64x256_S1x64x64_6_0_192)) (View.ld K (Rect.unit (s := S8x64x256) ![7, 0, 192] S1x64x64.size inb_S8x64x256_S1x64x64_7_0_192))

/-- Second phase: the intermediate `v379`. -/
def p2_v379 (q : Vec F S1x64x256 .f32) (m : Vec F S1x64x1 .f32) (K : Vec F S8x64x256 .f32) (W : Vec F S8x64x2048 .f32) (x14 : Vec F S1x1024x512 .f32) : FVec F S64x512 .f32 :=
  k1_pay64 (View.ld W (Rect.unit (s := S8x64x2048) ![2, 0, 1536] S1x64x512.size inb_S8x64x2048_S1x64x512_2_0_1536))

/-- Second phase: the intermediate `v419`. -/
def p2_v419 (q : Vec F S1x64x256 .f32) (m : Vec F S1x64x1 .f32) (K : Vec F S8x64x256 .f32) (W : Vec F S8x64x2048 .f32) (x14 : Vec F S1x1024x512 .f32) : FVec F S64x512 .f32 :=
  k1_pay66 (p2_v112 q m K W x14) (p2_v212 q m K W x14) (p2_v312 q m K W x14) (p2_v365 q m K W x14) (p2_v376 q m K W x14) (p2_v377 q m K W x14) (p2_v379 q m K W x14) (View.ld W (Rect.unit (s := S8x64x2048) ![3, 0, 1536] S1x64x512.size inb_S8x64x2048_S1x64x512_3_0_1536)) (View.ld W (Rect.unit (s := S8x64x2048) ![4, 0, 1536] S1x64x512.size inb_S8x64x2048_S1x64x512_4_0_1536)) (View.ld W (Rect.unit (s := S8x64x2048) ![5, 0, 1536] S1x64x512.size inb_S8x64x2048_S1x64x512_5_0_1536)) (View.ld W (Rect.unit (s := S8x64x2048) ![6, 0, 1536] S1x64x512.size inb_S8x64x2048_S1x64x512_6_0_1536)) (View.ld W (Rect.unit (s := S8x64x2048) ![7, 0, 1536] S1x64x512.size inb_S8x64x2048_S1x64x512_7_0_1536)) (View.ld x14 (Rect.unit (s := S1x1024x512) ![0, 0, 0] S1x1024x512.size inb_S1x1024x512_S1x1024x512_0_0_0))

/-- Second phase: the intermediate `v420`. -/
def p2_v420 (q : Vec F S1x64x256 .f32) (m : Vec F S1x64x1 .f32) (K : Vec F S8x64x256 .f32) (W : Vec F S8x64x2048 .f32) (x14 : Vec F S1x1024x512 .f32) : FVec F S64x1024 .f32 :=
  k1_pay67 (p2_v112 q m K W x14) (p2_v212 q m K W x14) (p2_v312 q m K W x14) (p2_v365 q m K W x14) (p2_v376 q m K W x14) (p2_v377 q m K W x14) (p2_v379 q m K W x14) (View.ld W (Rect.unit (s := S8x64x2048) ![3, 0, 1536] S1x64x512.size inb_S8x64x2048_S1x64x512_3_0_1536)) (View.ld W (Rect.unit (s := S8x64x2048) ![4, 0, 1536] S1x64x512.size inb_S8x64x2048_S1x64x512_4_0_1536)) (View.ld W (Rect.unit (s := S8x64x2048) ![5, 0, 1536] S1x64x512.size inb_S8x64x2048_S1x64x512_5_0_1536)) (View.ld W (Rect.unit (s := S8x64x2048) ![6, 0, 1536] S1x64x512.size inb_S8x64x2048_S1x64x512_6_0_1536)) (View.ld W (Rect.unit (s := S8x64x2048) ![7, 0, 1536] S1x64x512.size inb_S8x64x2048_S1x64x512_7_0_1536))

/-- Second phase: the contents of the hidden state's output window. -/
def hsOut (q : Vec F S1x64x256 .f32) (m : Vec F S1x64x1 .f32) (K : Vec F S8x64x256 .f32) (W : Vec F S8x64x2048 .f32) (x14 : Vec F S1x1024x512 .f32) (x15 : Vec F S1x1024x512 .f32) (hb : Vec F S1x64x512 .f32) : Vec F S64x512 .f32 :=
  View.canon [⟨(Rect.unit (s := S64x512) ![0, 0] S64x512.size inb_S64x512_S64x512_0_0), k1_pay4 (p2_v12 q m K W x14) (p2_v419 q m K W x14) (p2_v420 q m K W x14) (View.ld x15 (Rect.unit (s := S1x1024x512) ![0, 0, 0] S1x1024x512.size inb_S1x1024x512_S1x1024x512_0_0_0)) hb⟩]

end Cert.Proof.KernelIdeal.Region1

end
-- ==== Proof.KernelIdealRegion1First.lean ====
/-
  The second kernel region: what one run of its body leaves in the first phase.
-/
module

public import proofs.«01_k».proof.Proof.KernelIdealRegion1Values

@[expose] public section

set_option maxRecDepth 16384

noncomputable section

namespace Cert.Proof.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reading after a last store of a rectangle is the earlier reading with that rectangle's part replaced. -/
theorem read_writes_overlay {Val : EltTy → Type} {κ : Kind} {sp : Space} {sh : Shape} {e : EltTy} (v : View sig κ sp sh e) (f : v.ty.Contents Val)
    (r : Rect sh) (w : r.shape.Idx → Val e) (L : List (View.Piece Val sh e)) :
    v.read Val (v.writes Val f (⟨r, w⟩ :: L)) = r.overlay (v.read Val (v.writes Val f L)) w := by
  funext y
  by_cases hy : y ∈ r.set
  · obtain ⟨z, hz⟩ : ∃ z, r.emb z = y := by
      have h := hy
      rw [← Rect.map_emb_univ, Finset.mem_map] at h
      exact ⟨h.choose, h.choose_spec.2⟩
    rw [← hz, View.read_writes_cons_emb, Rect.overlay_emb]
  · rw [View.writes_cons, View.read_slice_write_of_not_mem r _ _ _ (by rw [Rect.map_emb_univ]; exact hy),
      Rect.overlay_of_not_mem r _ _ hy]

/-- One store of the whole buffer covers it. -/
theorem cover16 (p : Vec F S64x512 .f32) (y : S64x512.Idx) :
    ∃ pc ∈ ([⟨(Rect.unit (s := S64x512) ![0, 0] S64x512.size inb_S64x512_S64x512_0_0), p⟩] : List (View.Piece (Elt F) S64x512 .f32)), y ∈ pc.1.set :=
  View.cover_of_tiled [⟨(Rect.unit (s := S64x512) ![0, 0] S64x512.size inb_S64x512_S64x512_0_0), p⟩] S64x512.size (by rfl) y

set_option maxHeartbeats 1000000 in
/-- The body at a point of the first phase: the cell state's window and the unit's slab of each scratch buffer are
    written, everything else is left as found. -/
theorem firstRun (c : Dev nD) (E : Set ℕ) (i : grid1.Coords) (h1 : k1_cond1 i = 1#1) (h2 : ¬ k1_cond2 i = 1#1)
    (arg1 : Memref sig .tc .vmem S64x512 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S8x64x1 .f32) (harg4 : arg4.IsWhole) (arg5 : Memref sig .tc .vmem S8x64x1 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x256 .f32) (harg10 : arg10.IsWhole) (arg11 : Memref sig .tc .vmem S1x512x256 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S1x1024x512 .f32) (harg14 : arg14.IsWhole) (arg15 : Memref sig .tc .vmem S1x1024x512 .f32) (harg15 : arg15.IsWhole) (arg16 : Memref sig .tc .vmem S64x512 .f32) (harg16 : arg16.IsWhole) (arg17 : Memref sig .tc .vmem S64x512 .f32) (harg17 : arg17.IsWhole) (arg18 : Memref sig .tc .vmem S8x64x256 .f32) (harg18 : arg18.IsWhole) (arg19 : Memref sig .tc .vmem S8x64x256 .f32) (harg19 : arg19.IsWhole) (arg20 : Memref sig .tc .vmem S8x64x2048 .f32) (harg20 : arg20.IsWhole) (arg21 : Memref sig .tc .vmem S8x64x512 .f32) (harg21 : arg21.IsWhole)
    (x1 : Vec F S64x512 .f32) (x2 : Vec F S64x512 .f32) (x3 : Vec F S64x512 .f32) (x4 : Vec F S8x64x1 .f32) (x5 : Vec F S8x64x1 .f32) (x6 : Vec F S1x512x1024 .f32) (x7 : Vec F S1x512x1024 .f32) (x8 : Vec F S1x512x1024 .f32) (x9 : Vec F S1x512x1024 .f32) (x10 : Vec F S1x512x256 .f32) (x11 : Vec F S1x512x256 .f32) (x12 : Vec F S1x512x1024 .f32) (x13 : Vec F S1x512x1024 .f32) (x14 : Vec F S1x1024x512 .f32) (x15 : Vec F S1x1024x512 .f32) (x16 : Vec F S64x512 .f32) (x17 : Vec F S64x512 .f32) (x18 : Vec F S8x64x256 .f32) (x19 : Vec F S8x64x256 .f32) (x20 : Vec F S8x64x2048 .f32) (x21 : Vec F S8x64x512 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ owns (c : Thread nD τ) arg18 fullShare x18
      ∗ owns (c : Thread nD τ) arg19 fullShare x19
      ∗ owns (c : Thread nD τ) arg20 fullShare x20
      ∗ owns (c : Thread nD τ) arg21 fullShare x21
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ owns (c : Thread nD τ) arg15 fullShare x15
          ∗ owns (c : Thread nD τ) arg16 fullShare (csOut x1 x2 x3 (View.ld x4 (Rect.unit (s := S8x64x1) (k1_off1 i) S1x64x1.size (k1_off1_inb i h1))) (View.ld x5 (Rect.unit (s := S8x64x1) (k1_off1 i) S1x64x1.size (k1_off1_inb i h1))) x6 x7 x8 x9)
          ∗ owns (c : Thread nD τ) arg17 fullShare x17
          ∗ owns (c : Thread nD τ) arg18 fullShare ((Rect.unit (s := S8x64x256) (k1_off3 i) S1x64x256.size (k1_off3_inb i h1)).overlay x18 (keySlab x1 x2 x3 (View.ld x4 (Rect.unit (s := S8x64x1) (k1_off1 i) S1x64x1.size (k1_off1_inb i h1))) (View.ld x5 (Rect.unit (s := S8x64x1) (k1_off1 i) S1x64x1.size (k1_off1_inb i h1))) x6 x7 x8 x9 x10))
          ∗ owns (c : Thread nD τ) arg19 fullShare ((Rect.unit (s := S8x64x256) (k1_off3 i) S1x64x256.size (k1_off3_inb i h1)).overlay x19 (qSlab x1 x2 x3 (View.ld x4 (Rect.unit (s := S8x64x1) (k1_off1 i) S1x64x1.size (k1_off1_inb i h1))) (View.ld x5 (Rect.unit (s := S8x64x1) (k1_off1 i) S1x64x1.size (k1_off1_inb i h1))) x6 x7 x8 x9 x11))
          ∗ owns (c : Thread nD τ) arg20 fullShare ((Rect.unit (s := S8x64x2048) (k1_off5 i) S1x64x1024.size (k1_off5_inb i h1)).overlay ((Rect.unit (s := S8x64x2048) (k1_off4 i) S1x64x1024.size (k1_off4_inb i h1)).overlay x20 (valSlabA x1 x2 x3 (View.ld x4 (Rect.unit (s := S8x64x1) (k1_off1 i) S1x64x1.size (k1_off1_inb i h1))) (View.ld x5 (Rect.unit (s := S8x64x1) (k1_off1 i) S1x64x1.size (k1_off1_inb i h1))) x6 x7 x8 x9 x12)) (valSlabB x1 x2 x3 (View.ld x4 (Rect.unit (s := S8x64x1) (k1_off1 i) S1x64x1.size (k1_off1_inb i h1))) (View.ld x5 (Rect.unit (s := S8x64x1) (k1_off1 i) S1x64x1.size (k1_off1_inb i h1))) x6 x7 x8 x9 x13))
          ∗ owns (c : Thread nD τ) arg21 fullShare ((Rect.unit (s := S8x64x512) (k1_off2 i) S1x64x512.size (k1_off2_inb i h1)).overlay x21 (hbSlab x1 x2 x3 (View.ld x4 (Rect.unit (s := S8x64x1) (k1_off1 i) S1x64x1.size (k1_off1_inb i h1))) (View.ld x5 (Rect.unit (s := S8x64x1) (k1_off1 i) S1x64x1.size (k1_off1_inb i h1))) x6 x7 x8 x9))) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__fused_kernel_eq_skeleton]; unfold cc1__fused_kernel_skel
  simp only [dif_pos h1, dif_neg h2, k1_part1_eq_skeleton, k1_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover16 _)).trans ?_
    rfl
  isplitl [H17]
  · iexists f17; isplitr; · ipureintro; rfl
    iexact H17
  isplitl [H18]
  · iexists _; isplitr
    swap; · iexact H18
    ipureintro
    refine (read_writes_overlay _ _ _ _ _).trans ?_
    rfl
  isplitl [H19]
  · iexists _; isplitr
    swap; · iexact H19
    ipureintro
    refine (read_writes_overlay _ _ _ _ _).trans ?_
    rfl
  isplitl [H20]
  · iexists _; isplitr
    swap; · iexact H20
    ipureintro
    refine (read_writes_overlay _ _ _ _ _).trans ?_
    refine (congrArg (fun X => Rect.overlay _ X _) (read_writes_overlay _ _ _ _ _)).trans ?_
    rfl
  · iexists _; isplitr
    swap; · iexact H21
    ipureintro
    refine (read_writes_overlay _ _ _ _ _).trans ?_
    rfl

end Cert.Proof.KernelIdeal.Region1

end
-- ==== Proof.KernelIdealRegion1Second.lean ====
/-
  The second kernel region: what one run of its body leaves in the second phase.
-/
module

public import proofs.«01_k».proof.Proof.KernelIdealRegion1First

@[expose] public section

set_option maxRecDepth 16384

noncomputable section

namespace Cert.Proof.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the second phase: the hidden state's window is written, everything else is left as found. -/
theorem secondRun (c : Dev nD) (E : Set ℕ) (i : grid1.Coords) (h1 : ¬ k1_cond1 i = 1#1) (h2 : k1_cond2 i = 1#1)
    (arg1 : Memref sig .tc .vmem S64x512 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S8x64x1 .f32) (harg4 : arg4.IsWhole) (arg5 : Memref sig .tc .vmem S8x64x1 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1x512x256 .f32) (harg10 : arg10.IsWhole) (arg11 : Memref sig .tc .vmem S1x512x256 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S1x1024x512 .f32) (harg14 : arg14.IsWhole) (arg15 : Memref sig .tc .vmem S1x1024x512 .f32) (harg15 : arg15.IsWhole) (arg16 : Memref sig .tc .vmem S64x512 .f32) (harg16 : arg16.IsWhole) (arg17 : Memref sig .tc .vmem S64x512 .f32) (harg17 : arg17.IsWhole) (arg18 : Memref sig .tc .vmem S8x64x256 .f32) (harg18 : arg18.IsWhole) (arg19 : Memref sig .tc .vmem S8x64x256 .f32) (harg19 : arg19.IsWhole) (arg20 : Memref sig .tc .vmem S8x64x2048 .f32) (harg20 : arg20.IsWhole) (arg21 : Memref sig .tc .vmem S8x64x512 .f32) (harg21 : arg21.IsWhole)
    (x1 : Vec F S64x512 .f32) (x2 : Vec F S64x512 .f32) (x3 : Vec F S64x512 .f32) (x4 : Vec F S8x64x1 .f32) (x5 : Vec F S8x64x1 .f32) (x6 : Vec F S1x512x1024 .f32) (x7 : Vec F S1x512x1024 .f32) (x8 : Vec F S1x512x1024 .f32) (x9 : Vec F S1x512x1024 .f32) (x10 : Vec F S1x512x256 .f32) (x11 : Vec F S1x512x256 .f32) (x12 : Vec F S1x512x1024 .f32) (x13 : Vec F S1x512x1024 .f32) (x14 : Vec F S1x1024x512 .f32) (x15 : Vec F S1x1024x512 .f32) (x16 : Vec F S64x512 .f32) (x17 : Vec F S64x512 .f32) (x18 : Vec F S8x64x256 .f32) (x19 : Vec F S8x64x256 .f32) (x20 : Vec F S8x64x2048 .f32) (x21 : Vec F S8x64x512 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ owns (c : Thread nD τ) arg18 fullShare x18
      ∗ owns (c : Thread nD τ) arg19 fullShare x19
      ∗ owns (c : Thread nD τ) arg20 fullShare x20
      ∗ owns (c : Thread nD τ) arg21 fullShare x21
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ owns (c : Thread nD τ) arg15 fullShare x15
          ∗ owns (c : Thread nD τ) arg16 fullShare x16
          ∗ owns (c : Thread nD τ) arg17 fullShare (hsOut (View.ld x19 (Rect.unit (s := S8x64x256) (k1_off6 i) S1x64x256.size (k1_off6_inb i h2))) (View.ld x5 (Rect.unit (s := S8x64x1) (k1_off7 i) S1x64x1.size (k1_off7_inb i h2))) x18 x20 x14 x15 (View.ld x21 (Rect.unit (s := S8x64x512) (k1_off8 i) S1x64x512.size (k1_off8_inb i h2))))
          ∗ owns (c : Thread nD τ) arg18 fullShare x18
          ∗ owns (c : Thread nD τ) arg19 fullShare x19
          ∗ owns (c : Thread nD τ) arg20 fullShare x20
          ∗ owns (c : Thread nD τ) arg21 fullShare x21) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__fused_kernel_eq_skeleton]; unfold cc1__fused_kernel_skel
  simp only [dif_neg h1, dif_pos h2, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf10 hf11 hf12 hf13 hf14 hf15 hf16 hf17 hf18 hf19 hf20 hf21
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover16 _)).trans ?_
    rfl
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  · iexists f21; isplitr; · ipureintro; rfl
    iexact H21

end Cert.Proof.KernelIdeal.Region1

end
-- ==== Proof.KernelIdealRegion1.lean ====
/-
  The second kernel region: the pipeline's proof data, the scratch buffers' contents point by point, and the body
  obligation, for contents `V` of the device buffers at the region's entry.
-/
module

public import proofs.«01_k».proof.Proof.KernelIdealRegion1Second
public import proofs.«01_k».proof.Proof.Slabs

@[expose] public section

set_option maxRecDepth 16384

noncomputable section

namespace Cert.Proof.KernelIdeal.Region1

open Cert.KernelIdeal Cert.KernelIdeal.Gen Cert.Proof.Slabs
open Idealize.ShloMosaic.ValueIdx (ix3 eq_ix3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid point by point -/

/-- The first phase is the first eight points. -/
theorem cond1_iff : ∀ t : Fin grid1.N, k1_cond1 (grid1.coords t) = 1#1 ↔ t.val < 8 := by decide +kernel
/-- The second phase is the other eight. -/
theorem cond2_iff : ∀ t : Fin grid1.N, k1_cond2 (grid1.coords t) = 1#1 ↔ 8 ≤ t.val := by decide +kernel
/-- The offsets of the first phase: slab `t`. -/
theorem off1_eq : ∀ t : Fin grid1.N, k1_off1 (grid1.coords t) = ![t.val, 0, 0] := by decide +kernel
theorem off2_eq : ∀ t : Fin grid1.N, k1_off2 (grid1.coords t) = ![t.val, 0, 0] := by decide +kernel
theorem off3_eq : ∀ t : Fin grid1.N, k1_off3 (grid1.coords t) = ![t.val, 0, 0] := by decide +kernel
theorem off4_eq : ∀ t : Fin grid1.N, k1_off4 (grid1.coords t) = ![t.val, 0, 0] := by decide +kernel
theorem off5_eq : ∀ t : Fin grid1.N, k1_off5 (grid1.coords t) = ![t.val, 0, 1024] := by decide +kernel
/-- The offsets of the second phase: slab `t - 8`. -/
theorem off6_eq : ∀ t : Fin grid1.N, 8 ≤ t.val → k1_off6 (grid1.coords t) = ![t.val - 8, 0, 0] := by decide +kernel
theorem off7_eq : ∀ t : Fin grid1.N, 8 ≤ t.val → k1_off7 (grid1.coords t) = ![t.val - 8, 0, 0] := by decide +kernel
theorem off8_eq : ∀ t : Fin grid1.N, 8 ≤ t.val → k1_off8 (grid1.coords t) = ![t.val - 8, 0, 0] := by decide +kernel
/-- The cell state is written back at the first seven points and at the last. -/
theorem flush15 : ∀ t : Fin grid1.N, win1_15.flush t = decide (t.val < 7 ∨ t.val = 15) := by decide +kernel
/-- The hidden state is written back at the last eight points. -/
theorem flush16 : ∀ t : Fin grid1.N, win1_16.flush t = decide (8 ≤ t.val) := by decide +kernel

/-! ## The proof data -/

variable (V : Dev nD → Valuation τ sig (Elt F))

/-- Window `w`'s block of its array at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first-phase point of unit `u`. -/
def pt (u : Fin 8) : Fin cfg1.N := ⟨u.val, by have : cfg1.N = 16 := N_1; have := u.isLt; omega⟩

/-- The cell state unit `t` leaves. -/
def csAt (c : Dev nD) (t : Fin cfg1.N) : Vec F S64x512 .f32 := csOut (iblk V c 0 t) (iblk V c 1 t) (iblk V c 2 t) (slab (iblk V c 3 t) t.val) (slab (iblk V c 4 t) t.val) (iblk V c 5 t) (iblk V c 6 t) (iblk V c 7 t) (iblk V c 8 t)

/-- The slab of new hidden states of unit `t`. -/
def hbAt (c : Dev nD) (t : Fin cfg1.N) : Vec F S1x64x512 .f32 := hbSlab (iblk V c 0 t) (iblk V c 1 t) (iblk V c 2 t) (slab (iblk V c 3 t) t.val) (slab (iblk V c 4 t) t.val) (iblk V c 5 t) (iblk V c 6 t) (iblk V c 7 t) (iblk V c 8 t)

/-- The slab of keys of unit `t`. -/
def keyAt (c : Dev nD) (t : Fin cfg1.N) : Vec F S1x64x256 .f32 := keySlab (iblk V c 0 t) (iblk V c 1 t) (iblk V c 2 t) (slab (iblk V c 3 t) t.val) (slab (iblk V c 4 t) t.val) (iblk V c 5 t) (iblk V c 6 t) (iblk V c 7 t) (iblk V c 8 t) (iblk V c 9 t)

/-- The slab of queries of unit `t`. -/
def qAt (c : Dev nD) (t : Fin cfg1.N) : Vec F S1x64x256 .f32 := qSlab (iblk V c 0 t) (iblk V c 1 t) (iblk V c 2 t) (slab (iblk V c 3 t) t.val) (slab (iblk V c 4 t) t.val) (iblk V c 5 t) (iblk V c 6 t) (iblk V c 7 t) (iblk V c 8 t) (iblk V c 10 t)

/-- The left half of the slab of values of unit `t`. -/
def valAtA (c : Dev nD) (t : Fin cfg1.N) : Vec F S1x64x1024 .f32 := valSlabA (iblk V c 0 t) (iblk V c 1 t) (iblk V c 2 t) (slab (iblk V c 3 t) t.val) (slab (iblk V c 4 t) t.val) (iblk V c 5 t) (iblk V c 6 t) (iblk V c 7 t) (iblk V c 8 t) (iblk V c 11 t)

/-- The right half of the slab of values of unit `t`. -/
def valAtB (c : Dev nD) (t : Fin cfg1.N) : Vec F S1x64x1024 .f32 := valSlabB (iblk V c 0 t) (iblk V c 1 t) (iblk V c 2 t) (slab (iblk V c 3 t) t.val) (slab (iblk V c 4 t) t.val) (iblk V c 5 t) (iblk V c 6 t) (iblk V c 7 t) (iblk V c 8 t) (iblk V c 12 t)

/-- The new hidden states, unit by unit. -/
def hbAll (c : Dev nD) : Vec F S8x64x512 .f32 := fun y => hbAt V c (pt (y 0)) (ix3 0 (y 1) (y 2))

/-- The keys, unit by unit. -/
def keyAll (c : Dev nD) : Vec F S8x64x256 .f32 := fun y => keyAt V c (pt (y 0)) (ix3 0 (y 1) (y 2))

/-- The queries, unit by unit. -/
def qAll (c : Dev nD) : Vec F S8x64x256 .f32 := fun y => qAt V c (pt (y 0)) (ix3 0 (y 1) (y 2))

/-- The values, unit by unit, each in two halves. -/
def valAll (c : Dev nD) : Vec F S8x64x2048 .f32 := fun y =>
  if h : (y 2).val < 1024 then valAtA V c (pt (y 0)) (ix3 0 (y 1) ⟨(y 2).val, h⟩)
  else valAtB V c (pt (y 0)) (ix3 0 (y 1) ⟨(y 2).val - 1024, by have : (y 2).val < 2048 := (y 2).isLt; omega⟩)

/-- The hidden state the second phase leaves at point `t`. -/
def hsAt (c : Dev nD) (t : Fin cfg1.N) : Vec F S64x512 .f32 :=
  hsOut (slab (qAll V c) (t.val - 8)) (slab (iblk V c 4 t) (t.val - 8)) (keyAll V c) (valAll V c) (iblk V c 13 t) (iblk V c 14 t) (slab (hbAll V c) (t.val - 8))

/-- The scoped buffers the region neither stages nor uses. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f))

/-- The scratch buffers after `k` points: the slabs of the first `k` units are known. -/
def scratch (c : Dev nD) (k : ℕ) : sProp 𝕄 :=
  iprop(∃ X18 X19 X20 X21, ⌜Agree k X18 (keyAll V c) ∧ Agree k X19 (qAll V c) ∧ Agree k X20 (valAll V c) ∧ Agree k X21 (hbAll V c)⌝
    ∗ owns (c : Thread nD τ) (Memref.whole cc1_scratch0) fullShare X18 ∗ owns (c : Thread nD τ) (Memref.whole cc1_scratch1) fullShare X19
    ∗ owns (c : Thread nD τ) (Memref.whole cc1_scratch2) fullShare X20 ∗ owns (c : Thread nD τ) (Memref.whole cc1_scratch3) fullShare X21)

/-- The region's proof data: the arrays as the region finds them, each input's buffer left as fetched, the cell state's
    left at what the unit of the point, or of the first phase's last point, gives, the hidden state's at what the second
    phase gives; the scratch buffers' known slabs carried along. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => if t.val < 8 then csAt V c t else csAt V c (pt 7)
    | ⟨16, _⟩ => hsAt V c t
    | ⟨_ + 17, h⟩ => absurd h (Nat.not_lt.2 (Nat.le_add_left _ _))
  Φ k := iprop(others c ∗ scratch V c k.val)
  q := Pipeline.shareOf spec1
  owed _ := 0

/-- The data's arrays are the entry contents. -/
theorem A_eq (c : Dev nD) (w : Fin cfg1.W) : (dat V c).A w = V c (Pipeline.arrRef spec1 w) := by
  dsimp only [dat]

/-- Input 0 is left as fetched. -/
theorem after0 (c : Dev nD) (t : Fin cfg1.N) : (dat V c).after 0 t = iblk V c 0 t := by dsimp only [dat]
/-- Input 1 is left as fetched. -/
theorem after1 (c : Dev nD) (t : Fin cfg1.N) : (dat V c).after 1 t = iblk V c 1 t := by dsimp only [dat]
/-- Input 2 is left as fetched. -/
theorem after2 (c : Dev nD) (t : Fin cfg1.N) : (dat V c).after 2 t = iblk V c 2 t := by dsimp only [dat]
/-- Input 3 is left as fetched. -/
theorem after3 (c : Dev nD) (t : Fin cfg1.N) : (dat V c).after 3 t = iblk V c 3 t := by dsimp only [dat]
/-- Input 4 is left as fetched. -/
theorem after4 (c : Dev nD) (t : Fin cfg1.N) : (dat V c).after 4 t = iblk V c 4 t := by dsimp only [dat]
/-- Input 5 is left as fetched. -/
theorem after5 (c : Dev nD) (t : Fin cfg1.N) : (dat V c).after 5 t = iblk V c 5 t := by dsimp only [dat]
/-- Input 6 is left as fetched. -/
theorem after6 (c : Dev nD) (t : Fin cfg1.N) : (dat V c).after 6 t = iblk V c 6 t := by dsimp only [dat]
/-- Input 7 is left as fetched. -/
theorem after7 (c : Dev nD) (t : Fin cfg1.N) : (dat V c).after 7 t = iblk V c 7 t := by dsimp only [dat]
/-- Input 8 is left as fetched. -/
theorem after8 (c : Dev nD) (t : Fin cfg1.N) : (dat V c).after 8 t = iblk V c 8 t := by dsimp only [dat]
/-- Input 9 is left as fetched. -/
theorem after9 (c : Dev nD) (t : Fin cfg1.N) : (dat V c).after 9 t = iblk V c 9 t := by dsimp only [dat]
/-- Input 10 is left as fetched. -/
theorem after10 (c : Dev nD) (t : Fin cfg1.N) : (dat V c).after 10 t = iblk V c 10 t := by dsimp only [dat]
/-- Input 11 is left as fetched. -/
theorem after11 (c : Dev nD) (t : Fin cfg1.N) : (dat V c).after 11 t = iblk V c 11 t := by dsimp only [dat]
/-- Input 12 is left as fetched. -/
theorem after12 (c : Dev nD) (t : Fin cfg1.N) : (dat V c).after 12 t = iblk V c 12 t := by dsimp only [dat]
/-- Input 13 is left as fetched. -/
theorem after13 (c : Dev nD) (t : Fin cfg1.N) : (dat V c).after 13 t = iblk V c 13 t := by dsimp only [dat]
/-- Input 14 is left as fetched. -/
theorem after14 (c : Dev nD) (t : Fin cfg1.N) : (dat V c).after 14 t = iblk V c 14 t := by dsimp only [dat]
/-- The cell state's buffer after a point. -/
theorem after15 (c : Dev nD) (t : Fin cfg1.N) : (dat V c).after 15 t = if t.val < 8 then csAt V c t else csAt V c (pt 7) := by dsimp only [dat]
/-- The hidden state's buffer after a point. -/
theorem after16 (c : Dev nD) (t : Fin cfg1.N) : (dat V c).after 16 t = hsAt V c t := by dsimp only [dat]
/-- Input 0 is found as fetched. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input 1 is found as fetched. -/
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input 2 is found as fetched. -/
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input 3 is found as fetched. -/
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input 4 is found as fetched. -/
theorem before4 (c : Dev nD) (t : Fin cfg1.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input 5 is found as fetched. -/
theorem before5 (c : Dev nD) (t : Fin cfg1.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- Input 6 is found as fetched. -/
theorem before6 (c : Dev nD) (t : Fin cfg1.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- Input 7 is found as fetched. -/
theorem before7 (c : Dev nD) (t : Fin cfg1.N) (d) : (dat V c).before 7 t d = iblk V c 7 t :=
  ((dat V c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
/-- Input 8 is found as fetched. -/
theorem before8 (c : Dev nD) (t : Fin cfg1.N) (d) : (dat V c).before 8 t d = iblk V c 8 t :=
  ((dat V c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
/-- Input 9 is found as fetched. -/
theorem before9 (c : Dev nD) (t : Fin cfg1.N) (d) : (dat V c).before 9 t d = iblk V c 9 t :=
  ((dat V c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
/-- Input 10 is found as fetched. -/
theorem before10 (c : Dev nD) (t : Fin cfg1.N) (d) : (dat V c).before 10 t d = iblk V c 10 t :=
  ((dat V c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
/-- Input 11 is found as fetched. -/
theorem before11 (c : Dev nD) (t : Fin cfg1.N) (d) : (dat V c).before 11 t d = iblk V c 11 t :=
  ((dat V c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
/-- Input 12 is found as fetched. -/
theorem before12 (c : Dev nD) (t : Fin cfg1.N) (d) : (dat V c).before 12 t d = iblk V c 12 t :=
  ((dat V c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
/-- Input 13 is found as fetched. -/
theorem before13 (c : Dev nD) (t : Fin cfg1.N) (d) : (dat V c).before 13 t d = iblk V c 13 t :=
  ((dat V c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
/-- Input 14 is found as fetched. -/
theorem before14 (c : Dev nD) (t : Fin cfg1.N) (d) : (dat V c).before 14 t d = iblk V c 14 t :=
  ((dat V c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)

/-- The cell state's window is idle in the second phase. -/
theorem idle15 (t : Fin cfg1.N) : cfg1.idle 15 (cfg1.grid.coords t) = decide (8 ≤ t.val) :=
  (by decide +kernel : ∀ t : Fin grid1.N, idle1 15 (grid1.coords t) = decide (8 ≤ t.val)) t
/-- The hidden state's window is idle in the first phase. -/
theorem idle16 (t : Fin cfg1.N) : cfg1.idle 16 (cfg1.grid.coords t) = decide (t.val < 8) :=
  (by decide +kernel : ∀ t : Fin grid1.N, idle1 16 (grid1.coords t) = decide (t.val < 8)) t

/-- In the second phase the cell state's buffer still holds what the first phase's last point left. -/
theorem before15 (c : Dev nD) (d) (k : ℕ) : ∀ t : Fin cfg1.N, t.val = k + 8 → (dat V c).before 15 t d = csAt V c (pt 7) := by
  have hN : cfg1.N = 16 := N_1
  induction k with
  | zero =>
    intro t ht
    rw [(dat V c).before_of_pos 15 t (by omega) rfl d, if_neg (by
      rw [show (cfg1.win 15).flush _ = _ from flush15 _]; simp only [decide_eq_true_eq]; omega)]
    unfold Dat.left
    rw [idle15, decide_eq_false (by simp only; omega)]
    refine (show Dat.kept _ _ _ _ = (dat V c).after 15 _ from rfl).trans ?_
    rw [after15, if_pos (by simp only; omega)]
    exact congrArg (csAt V c) (Fin.ext (by simp only [pt]; omega))
  | succ k ih =>
    intro t ht
    have := t.isLt
    rw [(dat V c).before_of_pos 15 t (by omega) rfl d, if_neg (by
      rw [show (cfg1.win 15).flush _ = _ from flush15 _]; simp only [decide_eq_true_eq]; omega)]
    unfold Dat.left
    rw [idle15, decide_eq_true (by simp only; omega)]
    exact ih _ (by simp only; omega)

/-! ## The body obligation -/

/-- Loading a slab of the stacked gates or masks in the first phase. -/
theorem ld1 (X : Vec F S8x64x1 .f32) (t : Fin cfg1.N) (ht : t.val < 8) (h1 : k1_cond1 (grid1.coords t) = 1#1) :
    View.ld X (Rect.unit (s := S8x64x1) (k1_off1 (grid1.coords t)) S1x64x1.size (k1_off1_inb (grid1.coords t) h1)) = slab X t.val :=
  ld_slab X _ _ ht (off1_eq t) _

/-- The body at a point of the first phase. -/
theorem bodyFirst (c : Dev nD) (t : Fin cfg1.N) (ht : t.val < 8) :
    iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d)))
    ⊢ wp frame (wpE (defs₀ (F := F)) Variants.none c none) Set.univ (bodyAt1 t) (fun _ =>
      iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ (∃ d, owns (c : Thread nD τ) (st1_16 t) fullShare ((dat V c).before 16 t d)))) := by
  unfold bodyAt1
  simp only [before0, before1, before2, before3, before4, before5, before6, before7, before8, before9, before10, before11, before12, before13, before14]
  rw [show (dat V c).Φ t.succ = iprop(others c ∗ scratch V c (t.val + 1)) from rfl,
    show (dat V c).Φ t.castSucc = iprop(others c ∗ scratch V c t.val) from rfl,
    show (dat V c).owesAt () t.succ = (dat V c).owesAt () t.castSucc from rfl,
    after0, after1, after2, after3, after4, after5, after6, after7, after8, after9, after10, after11, after12, after13, after14]
  unfold scratch
  iintro ⟨⟨HΦ, %X18, %X19, %X20, %X21, %hX, H17, H18, H19, H20⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨hX18, hX19, hX20, hX21⟩ := hX
  have h1 : k1_cond1 (grid1.coords t) = 1#1 := (cond1_iff t).mpr ht
  have h2 : ¬ k1_cond2 (grid1.coords t) = 1#1 := fun h => by have := (cond2_iff t).mp h; omega
  have hc : pt ⟨t.val, ht⟩ = t := rfl
  iapply (firstRun c Set.univ (grid1.coords t) h1 h2 _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) ((dat V c).before 15 t d15) ((dat V c).before 16 t d16) X18 X19 X20 X21 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H0, H1, H2, H3, H4, H5, H6, H7, H8, H9, H10, H11, H12, H13, H14, H15, H16, H17, H18, H19, H20⟩
  simp only [ld1 _ t ht h1]
  isplitl [HΦ H17 H18 H19 H20]
  · isplitl [HΦ]; · iexact HΦ
    iexists _; iexists _; iexists _; iexists _
    isplitr
    swap
    · isplitl [H17]; · iexact H17
      isplitl [H18]; · iexact H18
      isplitl [H19]; · iexact H19
      iexact H20
    ipureintro
    refine ⟨agree_step _ t.val ht (off3_eq t) _ _ _ _ hX18 fun y hy => ?_, agree_step _ t.val ht (off3_eq t) _ _ _ _ hX19 fun y hy => ?_,
      agree_step_halves (w := 1024) _ _ t.val ht (off4_eq t) (off5_eq t) _ _ _ _ _ _ hX20 (fun y hy h => ?_) (fun y hy h => ?_),
      agree_step _ t.val ht (off2_eq t) _ _ _ _ hX21 fun y hy => ?_⟩
    · exact congrArg (fun u => keyAt V c u (ix3 0 (y 1) (y 2))) (show pt (y 0) = t from Fin.ext hy)
    · exact congrArg (fun u => qAt V c u (ix3 0 (y 1) (y 2))) (show pt (y 0) = t from Fin.ext hy)
    · exact (dif_pos h).trans (congrArg (fun u => valAtA V c u (ix3 0 (y 1) ⟨(y 2).val, h⟩)) (show pt (y 0) = t from Fin.ext hy))
    · exact (dif_neg (Nat.not_lt.mpr h)).trans (congrArg (fun u => valAtB V c u (ix3 0 (y 1) ⟨(y 2).val - 1024, _⟩)) (show pt (y 0) = t from Fin.ext hy))
    · exact congrArg (fun u => hbAt V c u (ix3 0 (y 1) (y 2))) (show pt (y 0) = t from Fin.ext hy)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · rw [after15, if_pos ht]; unfold csAt; iexact H15
  iexists d16
  iexact H16

/-- The body at a point of the second phase. -/
theorem bodySecond (c : Dev nD) (t : Fin cfg1.N) (ht : 8 ≤ t.val) :
    iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d)))
    ⊢ wp frame (wpE (defs₀ (F := F)) Variants.none c none) Set.univ (bodyAt1 t) (fun _ =>
      iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ (∃ d, owns (c : Thread nD τ) (st1_15 t) fullShare ((dat V c).before 15 t d))
    ∗ owns (c : Thread nD τ) (st1_16 t) fullShare ((dat V c).after 16 t))) := by
  unfold bodyAt1
  simp only [before0, before1, before2, before3, before4, before5, before6, before7, before8, before9, before10, before11, before12, before13, before14]
  rw [show (dat V c).Φ t.succ = iprop(others c ∗ scratch V c (t.val + 1)) from rfl,
    show (dat V c).Φ t.castSucc = iprop(others c ∗ scratch V c t.val) from rfl,
    show (dat V c).owesAt () t.succ = (dat V c).owesAt () t.castSucc from rfl,
    after0, after1, after2, after3, after4, after5, after6, after7, after8, after9, after10, after11, after12, after13, after14]
  unfold scratch
  iintro ⟨⟨HΦ, %X18, %X19, %X20, %X21, %hX, H17, H18, H19, H20⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨hX18, hX19, hX20, hX21⟩ := hX
  have h1 : ¬ k1_cond1 (grid1.coords t) = 1#1 := fun h => by have := (cond1_iff t).mp h; omega
  have h2 : k1_cond2 (grid1.coords t) = 1#1 := (cond2_iff t).mpr ht
  have hN : cfg1.N = 16 := N_1
  have hlt : t.val - 8 < 8 := by have := t.isLt; omega
  obtain rfl := eq_of_agree ht hX18
  obtain rfl := eq_of_agree ht hX19
  obtain rfl := eq_of_agree ht hX20
  obtain rfl := eq_of_agree ht hX21
  iapply (secondRun c Set.univ (grid1.coords t) h1 h2 _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) ((dat V c).before 15 t d15) ((dat V c).before 16 t d16) (keyAll V c) (qAll V c) (valAll V c) (hbAll V c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H0, H1, H2, H3, H4, H5, H6, H7, H8, H9, H10, H11, H12, H13, H14, H15, H16, H17, H18, H19, H20⟩
  isplitl [HΦ H17 H18 H19 H20]
  · isplitl [HΦ]; · iexact HΦ
    iexists _; iexists _; iexists _; iexists _
    isplitr
    swap
    · isplitl [H17]; · iexact H17
      isplitl [H18]; · iexact H18
      isplitl [H19]; · iexact H19
      iexact H20
    ipureintro
    exact ⟨agree_refl _ _, agree_refl _ _, agree_refl _ _, agree_refl _ _⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iexists d15; iexact H15
  rw [after16]; unfold hsAt
  rw [← ld_slab (qAll V c) _ _ hlt (off6_eq t ht) (k1_off6_inb (grid1.coords t) h2),
    ← ld_slab (iblk V c 4 t) _ _ hlt (off7_eq t ht) (k1_off7_inb (grid1.coords t) h2),
    ← ld_slab (hbAll V c) _ _ hlt (off8_eq t ht) (k1_off8_inb (grid1.coords t) h2)]
  iexact H16

/-- The library's body obligation. -/
theorem body_obligation (c : Dev nD) : BodyObligation (dat (F := F) V c) (defs₀ (F := F)) Variants.none () Set.univ := fun t => by
  have hN : cfg1.N = 16 := N_1
  have hlt := t.isLt
  rw [bigSep_W1, bigSep_W1, show defs₀ (F := F) .tc cfg1.body (cfg1.bodyArgs t (cfg1.slots t)) = bodyAt1 t from by unfold defs₀; rw [Defs.onTc_tc]]
  simp only []
  rw [show idle1 15 (grid1.coords t) = _ from idle15 t, show idle1 16 (grid1.coords t) = _ from idle16 t, show (win1 15).flush t = _ from flush15 t, show (win1 16).flush t = _ from flush16 t]
  by_cases ht : t.val < 8
  · simp only [ht, show ¬ 8 ≤ t.val from by omega, decide_true, decide_false]
    exact bodyFirst V c t ht
  · have ht' : 8 ≤ t.val := by omega
    by_cases h15 : t.val = 15
    · have e8 : decide (8 ≤ t.val) = true := decide_eq_true ht'
      have e8' : decide (t.val < 8) = false := decide_eq_false ht
      have e15 : decide (t.val < 7 ∨ t.val = 15) = true := decide_eq_true (.inr h15)
      simp only [e8, e8', e15]
      refine triple_restated (bodySecond V c t ht') rfl .rfl fun _ => ?_
      iintro ⟨HΦ, Ho, H0, H1, H2, H3, H4, H5, H6, H7, H8, H9, H10, H11, H12, H13, H14, ⟨%d15, H15⟩, H16⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · rw [after15, if_neg ht, ← before15 V c d15 7 t h15]; iexact H15
      iexact H16
    · simp only [ht, ht', show ¬ (t.val < 7 ∨ t.val = 15) from by omega, decide_true, decide_false]
      exact bodySecond V c t ht'

end Cert.Proof.KernelIdeal.Region1

end
-- ==== Proof.KernelIdealRun.lean ====
/-
  The kernel's run: @main as host operations, the two kernel regions and host operations, and what its buffers hold at
  the end.
-/
module

public import proofs.«01_k».proof.Proof.KernelIdealRegion0
public import proofs.«01_k».proof.Proof.KernelIdealRegion1
public import proofs.«01_k».proof.Proof.Gen.KernelIdeal.Regions
public import Idealize.ShloMosaic.Lib.Pipeline.RegionsLoop

@[expose] public section

set_option maxRecDepth 16384

noncomputable section

namespace Cert.Proof.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) 𝕄 := (emb₁ : Emb (UR sig nD τ) 𝕄)

/-! ## The contents between the regions -/

/-- The first region's proof data, at the contents the host operations leave. -/
abbrev dat0 (c : Dev nD) : Dat τ (Elt F) Unit ℕ (UR sig nD τ) ℕ cfg0 c := Region0.dat (V1 m) c

/-- The buffers after the first region: its three results written. -/
def W2 (c : Dev nD) : Valuation τ sig (Elt F) :=
  Function.update (Function.update (Function.update (V1 m c) main_v3_0 ((dat0 m c).arrAt 5 cfg0.N)) main_v3_1 ((dat0 m c).arrAt 6 cfg0.N))
    main_v3_2 ((dat0 m c).arrAt 7 cfg0.N)

/-- The second region's proof data, at the contents the first leaves. -/
abbrev dat1 (c : Dev nD) : Dat τ (Elt F) Unit ℕ (UR sig nD τ) ℕ cfg1 c := Region1.dat (W2 m) c

/-- The buffers after the second region: its two results written. -/
def W3 (c : Dev nD) : Valuation τ sig (Elt F) :=
  Function.update (Function.update (W2 m c) main_v4_0 ((dat1 m c).arrAt 15 cfg1.N)) main_v4_1 ((dat1 m c).arrAt 16 cfg1.N)

/-- What the regions leave, as the chain of contents names it. -/
def outs : Outs (F := F) := fun k r c => if k = 2 then W2 m c r else W3 m c r

/-- The first region writes nothing but its results. -/
theorem W2_of (c : Dev nD) (r : Ref sig .tc) (h : r ∉ ([main_v3_0, main_v3_1, main_v3_2] : List (Ref sig .tc))) : W2 m c r = V1 m c r := by
  unfold W2
  rw [Function.update_of_ne, Function.update_of_ne, Function.update_of_ne] <;>
    exact StableHlo.devRef_ne_of_ne fun e => h (by rw [e]; decide)

/-- The second region writes nothing but its results. -/
theorem W3_of (c : Dev nD) (r : Ref sig .tc) (h : r ∉ ([main_v4_0, main_v4_1] : List (Ref sig .tc))) : W3 m c r = W2 m c r := by
  unfold W3
  rw [Function.update_of_ne, Function.update_of_ne] <;>
    exact StableHlo.devRef_ne_of_ne fun e => h (by rw [e]; decide)

/-- The first region's first result. -/
theorem W2_v3_0 (c : Dev nD) : W2 m c main_v3_0 = (dat0 m c).arrAt 5 cfg0.N := by
  unfold W2
  rw [Function.update_of_ne (StableHlo.devRef_ne_of_ne (by decide)), Function.update_of_ne (StableHlo.devRef_ne_of_ne (by decide)), Function.update_self]

/-- The first region's second result. -/
theorem W2_v3_1 (c : Dev nD) : W2 m c main_v3_1 = (dat0 m c).arrAt 6 cfg0.N := by
  unfold W2
  rw [Function.update_of_ne (StableHlo.devRef_ne_of_ne (by decide)), Function.update_self]

/-- The first region's third result. -/
theorem W2_v3_2 (c : Dev nD) : W2 m c main_v3_2 = (dat0 m c).arrAt 7 cfg0.N := by
  unfold W2
  rw [Function.update_self]

/-- The second region's first result. -/
theorem W3_v4_0 (c : Dev nD) : W3 m c main_v4_0 = (dat1 m c).arrAt 15 cfg1.N := by
  unfold W3
  rw [Function.update_of_ne (StableHlo.devRef_ne_of_ne (by decide)), Function.update_self]

/-- The second region's second result. -/
theorem W3_v4_1 (c : Dev nD) : W3 m c main_v4_1 = (dat1 m c).arrAt 16 cfg1.N := by
  unfold W3
  rw [Function.update_self]

/-- The chain of contents after the first region. -/
theorem V2_eq (c : Dev nD) : V2 m (outs m) c = W2 m c := by
  have e : ∀ r : Ref sig .tc, outs m 2 r c = W2 m c r := fun r => by unfold outs; rw [if_pos rfl]
  dsimp only [V2]
  rw [e, e, e, W2_v3_0, W2_v3_1, W2_v3_2]; rfl

/-- The chain of contents after the second region. -/
theorem V3_eq (c : Dev nD) : V3 m (outs m) c = W3 m c := by
  have e : ∀ r : Ref sig .tc, outs m 3 r c = W3 m c r := fun r => by unfold outs; rw [if_neg (by decide)]
  dsimp only [V3]
  rw [e, e, W3_v4_0, W3_v4_1, V2_eq]; rfl

/-! ## The regions as segments -/

/-- Every pipeline's proof data. -/
def pdats (p : Fin 2) (c : Dev nD) : Dat τ (Elt F) Unit ℕ (UR sig nD τ) ℕ (cfgs p) c := match p with
  | ⟨0, _⟩ => dat0 m c
  | ⟨1, _⟩ => dat1 m c
  | ⟨_ + 2, h⟩ => absurd h (Nat.not_lt.2 (Nat.le_add_left _ _))

/-- No core owes another anything: no level is assigned. -/
abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

set_option maxHeartbeats 2000000 in
/-- What region 0 leaves in each window's array is what the later contents have there. -/
theorem arr0 (c : Dev nD) : ∀ w : Fin cfg0.W, (dat0 m c).arrAt w cfg0.N = W2 m c (Pipeline.arrRef spec0 w)
  | ⟨0, _⟩ => ((dat0 m c).arrAt_in 0 rfl _).trans ((Region0.A_eq (V1 m) c 0).trans (W2_of m c _ (by decide)).symm)
  | ⟨1, _⟩ => ((dat0 m c).arrAt_in 1 rfl _).trans ((Region0.A_eq (V1 m) c 1).trans (W2_of m c _ (by decide)).symm)
  | ⟨2, _⟩ => ((dat0 m c).arrAt_in 2 rfl _).trans ((Region0.A_eq (V1 m) c 2).trans (W2_of m c _ (by decide)).symm)
  | ⟨3, _⟩ => ((dat0 m c).arrAt_in 3 rfl _).trans ((Region0.A_eq (V1 m) c 3).trans (W2_of m c _ (by decide)).symm)
  | ⟨4, _⟩ => ((dat0 m c).arrAt_in 4 rfl _).trans ((Region0.A_eq (V1 m) c 4).trans (W2_of m c _ (by decide)).symm)
  | ⟨5, _⟩ => (W2_v3_0 m c).symm
  | ⟨6, _⟩ => (W2_v3_1 m c).symm
  | ⟨7, _⟩ => (W2_v3_2 m c).symm
  | ⟨_ + 8, h⟩ => absurd h (Nat.not_lt.2 (Nat.le_add_left _ _))

/-- Off region 0's arrays nothing changes. -/
theorem arr0_rest (c : Dev nD) (b : Ref sig .tc) (hb : b ∉ Finset.univ.image (Pipeline.arrRef spec0)) : W2 m c b = V1 m c b :=
  W2_of m c b fun h => hb (by
    revert h; simp only [List.mem_cons, List.not_mem_nil, or_false]
    rintro (rfl | rfl | rfl) <;> decide)

set_option maxHeartbeats 2000000 in
/-- What region 1 leaves in each window's array is what the later contents have there. -/
theorem arr1 (c : Dev nD) : ∀ w : Fin cfg1.W, (dat1 m c).arrAt w cfg1.N = W3 m c (Pipeline.arrRef spec1 w)
  | ⟨0, _⟩ => ((dat1 m c).arrAt_in 0 rfl _).trans ((Region1.A_eq (W2 m) c 0).trans (W3_of m c _ (by decide)).symm)
  | ⟨1, _⟩ => ((dat1 m c).arrAt_in 1 rfl _).trans ((Region1.A_eq (W2 m) c 1).trans (W3_of m c _ (by decide)).symm)
  | ⟨2, _⟩ => ((dat1 m c).arrAt_in 2 rfl _).trans ((Region1.A_eq (W2 m) c 2).trans (W3_of m c _ (by decide)).symm)
  | ⟨3, _⟩ => ((dat1 m c).arrAt_in 3 rfl _).trans ((Region1.A_eq (W2 m) c 3).trans (W3_of m c _ (by decide)).symm)
  | ⟨4, _⟩ => ((dat1 m c).arrAt_in 4 rfl _).trans ((Region1.A_eq (W2 m) c 4).trans (W3_of m c _ (by decide)).symm)
  | ⟨5, _⟩ => ((dat1 m c).arrAt_in 5 rfl _).trans ((Region1.A_eq (W2 m) c 5).trans (W3_of m c _ (by decide)).symm)
  | ⟨6, _⟩ => ((dat1 m c).arrAt_in 6 rfl _).trans ((Region1.A_eq (W2 m) c 6).trans (W3_of m c _ (by decide)).symm)
  | ⟨7, _⟩ => ((dat1 m c).arrAt_in 7 rfl _).trans ((Region1.A_eq (W2 m) c 7).trans (W3_of m c _ (by decide)).symm)
  | ⟨8, _⟩ => ((dat1 m c).arrAt_in 8 rfl _).trans ((Region1.A_eq (W2 m) c 8).trans (W3_of m c _ (by decide)).symm)
  | ⟨9, _⟩ => ((dat1 m c).arrAt_in 9 rfl _).trans ((Region1.A_eq (W2 m) c 9).trans (W3_of m c _ (by decide)).symm)
  | ⟨10, _⟩ => ((dat1 m c).arrAt_in 10 rfl _).trans ((Region1.A_eq (W2 m) c 10).trans (W3_of m c _ (by decide)).symm)
  | ⟨11, _⟩ => ((dat1 m c).arrAt_in 11 rfl _).trans ((Region1.A_eq (W2 m) c 11).trans (W3_of m c _ (by decide)).symm)
  | ⟨12, _⟩ => ((dat1 m c).arrAt_in 12 rfl _).trans ((Region1.A_eq (W2 m) c 12).trans (W3_of m c _ (by decide)).symm)
  | ⟨13, _⟩ => ((dat1 m c).arrAt_in 13 rfl _).trans ((Region1.A_eq (W2 m) c 13).trans (W3_of m c _ (by decide)).symm)
  | ⟨14, _⟩ => ((dat1 m c).arrAt_in 14 rfl _).trans ((Region1.A_eq (W2 m) c 14).trans (W3_of m c _ (by decide)).symm)
  | ⟨15, _⟩ => (W3_v4_0 m c).symm
  | ⟨16, _⟩ => (W3_v4_1 m c).symm
  | ⟨_ + 17, h⟩ => absurd h (Nat.not_lt.2 (Nat.le_add_left _ _))

/-- Off region 1's arrays nothing changes. -/
theorem arr1_rest (c : Dev nD) (b : Ref sig .tc) (hb : b ∉ Finset.univ.image (Pipeline.arrRef spec1)) : W3 m c b = W2 m c b :=
  W3_of m c b fun h => hb (by
    revert h; simp only [List.mem_cons, List.not_mem_nil, or_false]
    rintro (rfl | rfl) <;> decide)

set_option backward.isDefEq.respectTransparency.types false in
/-- The first region as a segment of @main. -/
def reg0 : RegionSeg (pcfgs (F := F)) adm (pdats m) () defs₀ Variants.none L lv 0 where
  win := launch0.win.to₀
  block_pos := launch0.block_pos
  stage_whole := launch0.stage_whole
  K := PEmpty
  osem := PEmpty.elim
  ho := Pipeline.OwnSemFacts.none _
  hbody c := (Region0.body_obligation (V1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(emp)
  Y c := iprop(emp)
  Z c := Pipeline.unscopedRest spec0 c (fun b => V1 m c b)
  hentry c := by
    rw [← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((dat0 m c).share_full fun _ => rfl) (fun b => V1 m c b) (Region0.A_eq (V1 m) c)
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (pdats m 0 c).Φ 0 = Pipeline.scopedRest spec0 c from rfl]
    iintro ⟨-, -, Hr⟩
    iexact Hr
  hout c := by
    rw [show (pdats m 0 c).Φ (Fin.last (Pipeline.pin (pcfgs (F := F)) adm 0).N) = Pipeline.scopedRest spec0 c from rfl]
    iintro Hr
    isplitr; · iempintro
    isplitr; · rw [Pipeline.ownSems0_none]; iempintro
    iexact Hr
  hexit c := by
    rw [← Pipeline.unscopedBufs_held (Ix := Unit) (Name := ℕ) (U := UR sig nD τ) (Lvl := ℕ) c (W2 m c)]
    have hjoin := Pipeline.unscopedBufs_of_arrays (p := 0) (pcs := pcfgs (F := F)) (a := adm) launch0.win launch0.arr_whole c (pdats m)
      ((dat0 m c).share_full fun _ => rfl) (fun b => V1 m c b) (fun b => W2 m c b) _ (arr0 m c) (arr0_rest m c)
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

set_option backward.isDefEq.respectTransparency.types false in
/-- The second region as a segment of @main. -/
def reg1 : RegionSeg (pcfgs (F := F)) adm (pdats m) () defs₀ Variants.none L lv 1 where
  win := winFacts₀1
  block_pos := launch₀1.block_pos
  stage_whole := launch₀1.stage_whole
  K := PEmpty
  osem := PEmpty.elim
  ho := Pipeline.OwnSemFacts.none _
  hbody c := (Region1.body_obligation (W2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(emp)
  Y c := iprop(emp)
  Z c := Pipeline.unscopedRest spec1 c (fun b => W2 m c b)
  hentry c := by
    rw [← Pipeline.unscopedBufs_held (Ix := Unit) (Name := ℕ) (U := UR sig nD τ) (Lvl := ℕ) c (W2 m c)]
    have hsplit := Pipeline.arrays_of_unscopedBufs_shared (p := 1) (pcfgs (F := F)) adm (pdats m) winFacts₀1 sharedIn1 launch₀1.arr_whole c
      (fun _ _ => rfl) (fun b => W2 m c b) (Region1.A_eq (W2 m) c)
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (pdats m 1 c).Φ 0 = iprop(Region1.others c ∗ Region1.scratch (W2 m) c 0) from rfl, show Pipeline.scopedRest (Pipeline.pin (pcfgs (F := F)) adm 1).spec c = Pipeline.scopedRest spec1 c from rfl, scopedRest1_eq]
    unfold Region1.others Region1.scratch
    simp only [owns_whole]
    iintro ⟨-, -, H0, H1, H2, H3, H4, H5, H6, H7, ⟨%X18, S0⟩, ⟨%X19, S1⟩, ⟨%X20, S2⟩, ⟨%X21, S3⟩⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexists X18; iexists X19; iexists X20; iexists X21
    isplitr
    · ipureintro
      exact ⟨Slabs.agree_zero _ _, Slabs.agree_zero _ _, Slabs.agree_zero _ _, Slabs.agree_zero _ _⟩
    isplitl [S0]; · iexact S0
    isplitl [S1]; · iexact S1
    isplitl [S2]; · iexact S2
    iexact S3
  hout c := by
    rw [show (pdats m 1 c).Φ (Fin.last (Pipeline.pin (pcfgs (F := F)) adm 1).N) = iprop(Region1.others c ∗ Region1.scratch (W2 m) c cfg1.N) from rfl, show Pipeline.scopedRest (Pipeline.pin (pcfgs (F := F)) adm 1).spec c = Pipeline.scopedRest spec1 c from rfl, scopedRest1_eq]
    unfold Region1.others Region1.scratch
    simp only [owns_whole]
    iintro ⟨⟨H0, H1, H2, H3, H4, H5, H6, H7⟩, %X18, %X19, %X20, %X21, -, S0, S1, S2, S3⟩
    isplitr; · iempintro
    isplitr; · rw [Pipeline.ownSems0_none]; iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexists X18; iexact S0
    isplitl [S1]; · iexists X19; iexact S1
    isplitl [S2]; · iexists X20; iexact S2
    iexists X21; iexact S3
  hexit c := by
    rw [← Pipeline.unscopedBufs_held (Ix := Unit) (Name := ℕ) (U := UR sig nD τ) (Lvl := ℕ) c (W3 m c)]
    have hjoin := Pipeline.unscopedBufs_of_arrays_shared (p := 1) (pcs := pcfgs (F := F)) (a := adm) winFacts₀1 sharedIn1 launch₀1.arr_whole c (pdats m)
      (fun _ _ => rfl) (fun b => W2 m c b) (fun b => W3 m c b) _ (arr1 m c) (arr1_rest m c)
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

/-! ## The run -/

/-- Every weakly fair execution of @main from memory `m` with zero counters terminates; at the end each argument is as
    launched, the two results are what the chain of contents says, and every semaphore counter is zero. -/
def Post (r : PUnit × MemSt nD τ sig (Elt F)) : Prop :=
  (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_v5) = V4 m (outs m) c main_v5 ∧ r.2.mem ((c.tc : Thread nD τ).loc main_v6) = V4 m (outs m) c main_v6) ∧ r.2.sem = fun _ => 0

set_option backward.isDefEq.respectTransparency.types false in
/-- The run, by the library's theorem for @main as a list of segments. -/
theorem run : θ_run defs (onTc (τ := τ) (main (F := F))) ⟨m, fun _ => 0, ρ⟩ (Post m) := by
  refine Pipeline.θ_run_regions_kit_dev_sems (pcfgs (F := F)) adm (pdats m) () cellOf_inj EP defs₀ Variants.none L lv m ρ main
    (segs m (outs m) Variants.none L lv (fun _ => R) () (pdats m) (reg0 m) (reg1 m))
    (fun c Q => by
      rewrite [main_chain c, Seg.run_eq_chain,
        show (segs m (outs m) Variants.none L lv (fun _ => R) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := fun c => ⟨.rfl, .rfl, .rfl, ?_, .rfl⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_v5) = V4 m (outs m) c main_v5 ∧ s.mem ((c.tc : Thread nD τ).loc main_v6) = V4 m (outs m) c main_v6)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (EP (F := F) (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Entails.of_eq ?_
    exact congrArg (fun W => iprop(StableHlo.held (c : Thread nD τ) (Pipeline.ucRefs τ sig) W ∗ R c)) (V3_eq m c).symm
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c),
        (h (Proc.devRef .tc main_arg10) (Finset.mem_filter.mpr ⟨StableHlo.devRef_mem_tcRefs main_arg10, by decide⟩)).trans (V4_main_arg10 m (outs m) c),
        (h (Proc.devRef .tc main_arg11) (Finset.mem_filter.mpr ⟨StableHlo.devRef_mem_tcRefs main_arg11, by decide⟩)).trans (V4_main_arg11 m (outs m) c),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩)⟩
    · iexact HSI

end Cert.Proof.KernelIdeal.Run

end
-- ==== Proof.Spec.lean ====
/-
  The mathematics of the cell, coordinate by coordinate over the extended reals: the rank of a score among the eight
  scores of a row and the mask it gives, the softmax over the eight units, the recurrent cell on its preactivation,
  and the communication between the units.
-/
module

public import Idealize.ShloMosaic.PureOps.Ideal
public import Idealize.ShloMosaic.Lib.Pointwise

@[expose] public section

noncomputable section

namespace Cert.Proof.Spec

open Idealize.ShloMosaic

/-- How many of the scores come before the `j`-th: the greater ones, and the equal ones at a lower position. -/
def rank {n : ℕ} (s : Fin n → EReal) (j : Fin n) : ℕ :=
  (Finset.univ.filter fun x => s j < s x ∨ (s x = s j ∧ x < j)).card

/-- One for the four first scores, zero for the others. -/
def mask (s : Fin 8 → EReal) (j : Fin 8) : EReal := if rank s j < 4 then 1 else 0

/-- The mask is zero or one. -/
theorem mask_cases (s : Fin 8 → EReal) (j : Fin 8) : mask s j = 0 ∨ mask s j = 1 := by
  unfold mask; split
  · exact Or.inr rfl
  · exact Or.inl rfl

/-- The softmax of eight numbers, the greatest subtracted first. -/
def soft (l : Fin 8 → EReal) (j : Fin 8) : EReal :=
  Ideal.div (Ideal.exp (l j - Finset.univ.fold max ⊥ l)) (∑ i, Ideal.exp (l i - Finset.univ.fold max ⊥ l))

/-- The preactivation of one unit of one row. -/
def pre (inp h : Fin 512 → EReal) (I H : Fin 512 → Fin 2048 → EReal) (n : Fin 2048) : EReal :=
  (∑ k, inp k * I k n) + ∑ k, h k * H k n

/-- The new cell state. -/
def cNew (P : Fin 2048 → EReal) (c : Fin 512 → EReal) (d : Fin 512) : EReal :=
  c d * Ideal.logistic (P ⟨512 + d.val, by omega⟩) + Ideal.logistic (P ⟨d.val, by omega⟩) * Ideal.tanh (P ⟨1536 + d.val, by omega⟩)

/-- The new hidden state before the communication. -/
def hNew (P : Fin 2048 → EReal) (c : Fin 512 → EReal) (d : Fin 512) : EReal :=
  Ideal.logistic (P ⟨1024 + d.val, by omega⟩) * Ideal.tanh (cNew P c d)

/-- The scaled product of a query with a unit's key in head `n`. -/
def logit (q : Fin 256 → EReal) (K : Fin 8 → Fin 256 → EReal) (n : Fin 4) (j : Fin 8) : EReal :=
  (∑ i : Fin 64, q ⟨n.val * 64 + i.val, by omega⟩ * K j ⟨n.val * 64 + i.val, by omega⟩) * ((1 / 8 : ℝ) : EReal)

/-- What a unit reads from the others, all heads side by side. -/
def ctx (q : Fin 256 → EReal) (K : Fin 8 → Fin 256 → EReal) (V : Fin 8 → Fin 2048 → EReal) (k : Fin 2048) : EReal :=
  ∑ j, soft (logit q K ⟨k.val / 512, by omega⟩) j * V j k

/-- A row times a matrix. -/
def row {n p : ℕ} (h : Fin n → EReal) (W : Fin n → Fin p → EReal) (e : Fin p) : EReal := ∑ k, h k * W k e

/-- The new hidden state of a unit: the old one where the unit is not selected. -/
def hOut (m : EReal) (h hs : Fin 512 → EReal) (y : Fin 2048 → EReal) (Co : Fin 2048 → Fin 512 → EReal) (d : Fin 512) : EReal :=
  (m * h d + (1 - m) * hs d) + m * row y Co d

/-- The new cell state of a unit: the old one where the unit is not selected. -/
def cOut (m : EReal) (c cs : Fin 512 → EReal) (d : Fin 512) : EReal := m * c d + (1 - m) * cs d

/-- The score of a unit: the product of its query with the key of the input, over all heads, scaled. -/
def score (x : Fin 1024 → EReal) (h : Fin 512 → EReal) (Wk : Fin 1024 → Fin 256 → EReal) (Wq : Fin 512 → Fin 256 → EReal) : EReal :=
  (∑ j, row h Wq j * row x Wk j) * ((1 / 32 : ℝ) : EReal)

/-- The input's value: its projections averaged over the four heads. -/
def value (x : Fin 1024 → EReal) (Wv : Fin 1024 → Fin 2048 → EReal) (d : Fin 512) : EReal :=
  ∑ k, x k * ((((Wv k ⟨d.val, by omega⟩ + Wv k ⟨512 + d.val, by omega⟩) + Wv k ⟨1024 + d.val, by omega⟩) + Wv k ⟨1536 + d.val, by omega⟩) * ((1 / 4 : ℝ) : EReal))

/-- Column `n` of the left half of the 2048 columns. -/
def lo (n : Fin 1024) : Fin 2048 := ⟨n.val, by omega⟩

/-- Column `n` of the right half of the 2048 columns. -/
def hi (n : Fin 1024) : Fin 2048 := ⟨1024 + n.val, by omega⟩

/-- Column `k` of unit `u` where the units' columns stand side by side. -/
def side (u : Fin 8) (k : Fin 512) : Fin 4096 := ⟨512 * u.val + k.val, by omega⟩

/-! ## The constants the programs name -/

theorem bits_quarter : Ideal.ofBits .f32 0x3E800000#32 = ((1 / 4 : ℝ) : EReal) := by
  simp [Ideal.ofBits, Ideal.ieee, -EReal.coe_mul]; norm_num

theorem bits_thirtysecond : Ideal.ofBits .f32 0x3D000000#32 = ((1 / 32 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem bits_four : Ideal.ofBits .f32 0x40800000#32 = ((4 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

end Cert.Proof.Spec

end
-- ==== Proof.Values0.lean ====
/-
  What the first region leaves in its outputs, at an index: the input's value, the gates and the masks.
-/
module

public import proofs.«01_k».proof.Proof.KernelIdealRegion0
public import proofs.«01_k».proof.Proof.Spec
public import Idealize.ShloMosaic.Lib.Pointwise
public import Idealize.ShloMosaic.Lib.Pipeline.Value

@[expose] public section

set_option maxRecDepth 16384

noncomputable section

namespace Cert.Proof.KernelIdeal.Region0

open Cert.KernelIdeal Cert.KernelIdeal.Gen
open Idealize.ShloMosaic Idealize.ShloMosaic.TcCoe Idealize.ShloMosaic.Tactic

/-! ## Truth values as numbers -/

/-- A truth value converted to a number is one or zero. -/
theorem sitofp_ofBool (b : Bool) :
    (FloatOps.sitofp (F := Ideal) .f32 (BitVec.setWidth 32 (BitVec.ofBool b)) : EReal) = if b = true then 1 else 0 := by
  show ((((BitVec.setWidth 32 (BitVec.ofBool b)).toInt : ℤ) : ℝ) : EReal) = _
  cases b
  · have h : (BitVec.setWidth 32 (BitVec.ofBool false)).toInt = 0 := by decide
    rw [h]; simp
  · have h : (BitVec.setWidth 32 (BitVec.ofBool true)).toInt = 1 := by decide
    rw [h]; simp

/-- Comparing two positions below eight as words. -/
theorem cmpi_pos : ∀ x j : Fin 8, IntOp.cmpi .slt (BitVec.ofNat 32 x.val) (BitVec.ofNat 32 j.val) = BitVec.ofBool (decide (x < j)) := by
  decide

/-- The disjunction and conjunction of truth values as words. -/
theorem ori_andi (p q r : Bool) :
    IntOp.ori (BitVec.ofBool p) (IntOp.andi (BitVec.ofBool q) (BitVec.ofBool r)) = BitVec.ofBool (p || (q && r)) := by
  revert p q r; decide

/-- Counting the true ones. -/
theorem sum_ind (p : Fin 8 → Prop) [DecidablePred p] :
    (∑ x, if p x then (1 : EReal) else 0) = (((Finset.univ.filter p).card : ℝ) : EReal) := by
  rw [Finset.sum_ite, Finset.sum_const_zero, add_zero, Finset.sum_const, nsmul_one]
  exact (EReal.coe_natCast).symm

/-! ## The scores -/

section Scores

variable (x0 : Vec Ideal S64x1024 .f32) (x1 : Vec Ideal S64x4096 .f32) (x2 : Vec Ideal S1024x256 .f32)
  (x3 : Vec Ideal S1024x2048 .f32) (x4 : Vec Ideal S8x512x256 .f32)

/-- The score of unit `u` in row `b`. -/
def scoreAt (b : Fin 64) (u : Fin 8) : EReal :=
  Spec.score (fun k => x0 (ix2 b k)) (fun k => x1 (ix2 b ⟨512 * u.val + k.val, by omega⟩)) (fun k j => x2 (ix2 k j))
    (fun k j => x4 (ix3 u k j))

/-- The scores side by side. -/
def allScores : FVec Ideal S64x8 .f32 :=
  k0_pay14 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0))

theorem score0_at (b : Fin 64) (z : Fin 1) : score0 x0 x1 x2 x3 x4 (ix2 b z) = scoreAt x0 x1 x2 x4 b 0 := by
  unfold scoreAt Spec.score Spec.row
  rw [← Spec.bits_thirtysecond]
  pointwise [score0, k0_pay5, k0_pay4, k0_pay2]

theorem score1_at (b : Fin 64) (z : Fin 1) : score1 x0 x1 x2 x3 x4 (ix2 b z) = scoreAt x0 x1 x2 x4 b 1 := by
  unfold scoreAt Spec.score Spec.row
  rw [← Spec.bits_thirtysecond]
  pointwise [score1, keyRow, k0_pay7, k0_pay6, k0_pay4, k0_pay2]

theorem score2_at (b : Fin 64) (z : Fin 1) : score2 x0 x1 x2 x3 x4 (ix2 b z) = scoreAt x0 x1 x2 x4 b 2 := by
  unfold scoreAt Spec.score Spec.row
  rw [← Spec.bits_thirtysecond]
  pointwise [score2, keyRow, k0_pay8, k0_pay4, k0_pay2]

theorem score3_at (b : Fin 64) (z : Fin 1) : score3 x0 x1 x2 x3 x4 (ix2 b z) = scoreAt x0 x1 x2 x4 b 3 := by
  unfold scoreAt Spec.score Spec.row
  rw [← Spec.bits_thirtysecond]
  pointwise [score3, keyRow, k0_pay10, k0_pay9, k0_pay4, k0_pay2]

theorem score4_at (b : Fin 64) (z : Fin 1) : score4 x0 x1 x2 x3 x4 (ix2 b z) = scoreAt x0 x1 x2 x4 b 4 := by
  unfold scoreAt Spec.score Spec.row
  rw [← Spec.bits_thirtysecond]
  pointwise [score4, keyRow, k0_pay11, k0_pay4, k0_pay2]

theorem score5_at (b : Fin 64) (z : Fin 1) : score5 x0 x1 x2 x3 x4 (ix2 b z) = scoreAt x0 x1 x2 x4 b 5 := by
  unfold scoreAt Spec.score Spec.row
  rw [← Spec.bits_thirtysecond]
  pointwise [score5, keyRow, k0_pay12, k0_pay4, k0_pay2]

/-- The eight columns are the scores of the eight units. -/
theorem allScores_at (b : Fin 64) (u : Fin 8) : allScores x0 x1 x2 x3 x4 (ix2 b u) = scoreAt x0 x1 x2 x4 b u := by
  have h0 := score0_at x0 x1 x2 x3 x4 b
  have h1 := score1_at x0 x1 x2 x3 x4 b
  have h2 := score2_at x0 x1 x2 x3 x4 b
  have h3 := score3_at x0 x1 x2 x3 x4 b
  have h4 := score4_at x0 x1 x2 x3 x4 b
  have h5 := score5_at x0 x1 x2 x3 x4 b
  unfold allScores
  revert h0 h1 h2 h3 h4 h5
  generalize score0 x0 x1 x2 x3 x4 = s0
  generalize score1 x0 x1 x2 x3 x4 = s1
  generalize score2 x0 x1 x2 x3 x4 = s2
  generalize score3 x0 x1 x2 x3 x4 = s3
  generalize score4 x0 x1 x2 x3 x4 = s4
  generalize score5 x0 x1 x2 x3 x4 = s5
  intro h0 h1 h2 h3 h4 h5
  unfold scoreAt Spec.score Spec.row at *
  rw [← Spec.bits_thirtysecond] at *
  pointwise [keyRow, query6, k0_pay14, k0_pay13, k0_pay4, k0_pay2]
  fin_vals u with hk
  · obtain rfl : u = 0 := Fin.ext hk
    exact h0 0
  · obtain rfl : u = 1 := Fin.ext hk
    exact h1 0
  · obtain rfl : u = 2 := Fin.ext hk
    exact h2 0
  · obtain rfl : u = 3 := Fin.ext hk
    exact h3 0
  · obtain rfl : u = 4 := Fin.ext hk
    exact h4 0
  · obtain rfl : u = 5 := Fin.ext hk
    exact h5 0
  · obtain rfl : u = 6 := Fin.ext hk
    exact rfl
  · obtain rfl : u = 7 := Fin.ext hk
    exact rfl

/-- The mask of unit `u` in row `b`. -/
def maskAt (b : Fin 64) (u : Fin 8) : EReal := Spec.mask (scoreAt x0 x1 x2 x4 b) u

theorem maskAll_at (b : Fin 64) (u : Fin 8) : maskAll x0 x1 x2 x3 x4 (ix2 b u) = maskAt x0 x1 x2 x4 b u := by
  have hS : ∀ u, k0_pay14 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0)) (ix2 b u) = scoreAt x0 x1 x2 x4 b u := allScores_at x0 x1 x2 x3 x4 b
  unfold maskAll k0_pay15 maskAt
  revert hS
  generalize k0_pay14 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0)) = S
  intro hS
  pointwise
  simp only [hS, cmpi_pos, ori_andi, sitofp_ofBool, Spec.bits_four]
  unfold Spec.mask Spec.rank
  refine if_congr ?_ rfl rfl
  rw [decide_eq_true_eq, sum_ind, EReal.coe_lt_coe_iff]
  simp only [decide_eq_true_eq, Bool.or_eq_true, Bool.and_eq_true]
  norm_cast

/-- The gate: the logistic of the score times the mask. -/
theorem gateAll_at (b : Fin 64) (u : Fin 8) :
    gateAll x0 x1 x2 x3 x4 (ix2 b u) = Ideal.logistic (scoreAt x0 x1 x2 x4 b u) * maskAt x0 x1 x2 x4 b u := by
  rw [← maskAll_at x0 x1 x2 x3 x4 b u, ← allScores_at x0 x1 x2 x3 x4 b u]
  unfold maskAll gateAll k0_pay16
  generalize hM : k0_pay15 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0)) = M
  unfold allScores
  generalize k0_pay14 (keyRow x0 x1 x2 x3 x4) (score0 x0 x1 x2 x3 x4) (score1 x0 x1 x2 x3 x4) (score2 x0 x1 x2 x3 x4) (score3 x0 x1 x2 x3 x4) (score4 x0 x1 x2 x3 x4) (score5 x0 x1 x2 x3 x4) (query6 x0 x1 x2 x3 x4) (View.ld x1 (Rect.unit (s := S64x4096) ![0, 3584] S64x512.size inb_S64x4096_S64x512_0_3584)) (View.ld x4 (Rect.unit (s := S8x512x256) ![7, 0, 0] S1x512x256.size inb_S8x512x256_S1x512x256_7_0_0)) = S
  pointwise

/-- The first output: the input's value. -/
theorem out5_at (b : Fin 64) (d : Fin 512) :
    out5 x0 x1 x2 x3 x4 (ix2 b d) = Spec.value (fun k => x0 (ix2 b k)) (fun k e => x3 (ix2 k e)) d := by
  unfold out5 Spec.value
  rw [View.canon_unit_zero (by funext a; fin_cases a <;> rfl), ← Spec.bits_quarter]
  pointwise [k0_pay3, k0_pay2]

/-- The second output: the gates. -/
theorem out6_at (u : Fin 8) (b : Fin 64) (z : Fin 1) : out6 x0 x1 x2 x3 x4 (ix3 u b z) = gateAll x0 x1 x2 x3 x4 (ix2 b u) := by
  have hg : gateCol x0 x1 x2 x3 x4 = extractStridedSlice S64x1 ![0, 0] (gateAll x0 x1 x2 x3 x4) slices_S64x8_o0_0_S64x1 := rfl
  unfold out6
  rw [hg]
  generalize gateAll x0 x1 x2 x3 x4 = g
  refine (View.canon_apply_of_pieces (fun y => g (ix2 (y 1) (y 0))) _ ?_ (ix3 u b z) (cover8 _ _ _ _ _ _ _ _ _)).trans ?_
  · intro p hp x
    simp only [List.mem_cons, List.not_mem_nil, or_false] at hp
    rcases hp with rfl | rfl | rfl | rfl | rfl | rfl | rfl | rfl <;>
      (idx_vars x; pointwise [k0_pay32, k0_pay30, k0_pay28, k0_pay26, k0_pay24, k0_pay22, k0_pay20, k0_pay18]
       obtain rfl : x0 = 0 := Subsingleton.elim _ _
       refine congrArg g (congrArg₂ ix2 (Fin.ext ?_) (Fin.ext ?_)) <;> (rw [Rect.emb_apply]; simp [Rect.unit]))
  · pointwise

/-- The third output: the masks. -/
theorem out7_at (u : Fin 8) (b : Fin 64) (z : Fin 1) : out7 x0 x1 x2 x3 x4 (ix3 u b z) = maskAll x0 x1 x2 x3 x4 (ix2 b u) := by
  unfold out7
  generalize maskAll x0 x1 x2 x3 x4 = g
  refine (View.canon_apply_of_pieces (fun y => g (ix2 (y 1) (y 0))) _ ?_ (ix3 u b z) (cover8 _ _ _ _ _ _ _ _ _)).trans ?_
  · intro p hp x
    simp only [List.mem_cons, List.not_mem_nil, or_false] at hp
    rcases hp with rfl | rfl | rfl | rfl | rfl | rfl | rfl | rfl <;>
      (idx_vars x; pointwise [k0_pay33, k0_pay31, k0_pay29, k0_pay27, k0_pay25, k0_pay23, k0_pay21, k0_pay19, k0_pay1]
       obtain rfl : x0 = 0 := Subsingleton.elim _ _
       refine congrArg g (congrArg₂ ix2 (Fin.ext ?_) (Fin.ext ?_)) <;> (rw [Rect.emb_apply]; simp [Rect.unit]))
  · pointwise

end Scores

end Cert.Proof.KernelIdeal.Region0

end
-- ==== Proof.Values1.lean ====
/-
  What one iteration of the second region's first phase computes, at an index: the new cell and hidden states and the
  keys, queries and values of the communication.
-/
module

public import proofs.«01_k».proof.Proof.KernelIdealRegion1Values
public import proofs.«01_k».proof.Proof.Spec
public import Idealize.ShloMosaic.Lib.Pointwise
public import Idealize.ShloMosaic.Lib.Pipeline.Value

@[expose] public section

set_option maxRecDepth 16384

noncomputable section

namespace Cert.Proof.KernelIdeal.Region1

open Cert.KernelIdeal Cert.KernelIdeal.Gen
open Idealize.ShloMosaic Idealize.ShloMosaic.TcCoe Idealize.ShloMosaic.Tactic

section Phase1

variable (x1 x2 x3 : Vec Ideal S64x512 .f32) (a m : Vec Ideal S1x64x1 .f32) (x6 x7 x8 x9 : Vec Ideal S1x512x1024 .f32)
  (I H : Fin 512 → Fin 2048 → EReal)
  (h6 : ∀ k n, x6 (ix3 0 k n) = I k (Spec.lo n)) (h7 : ∀ k n, x7 (ix3 0 k n) = I k (Spec.hi n))
  (h8 : ∀ k n, x8 (ix3 0 k n) = H k (Spec.lo n)) (h9 : ∀ k n, x9 (ix3 0 k n) = H k (Spec.hi n))

/-- The preactivation of row `b`: the gated value and the old hidden state through their weights. -/
def preRow (b : Fin 64) : Fin 2048 → EReal :=
  Spec.pre (fun k => a (ix3 0 b 0) * x3 (ix2 b k)) (fun k => x1 (ix2 b k)) I H

include h6 h8 in
theorem v30_at (b : Fin 64) (n : Fin 1024) : p1_v30 x1 x2 x3 a m x6 x7 x8 x9 (ix2 b n) = preRow x1 x3 a I H b ⟨n.val, by omega⟩ := by
  unfold preRow Spec.pre
  pointwise [p1_v30, k1_pay9, k1_pay8, k1_pay5]
  simp only [h6, h8, Spec.lo]

include h7 h9 in
theorem v41_at (b : Fin 64) (n : Fin 1024) :
    k1_pay13 (p1_v35 x1 x2 x3 a m x6 x7 x8 x9) (p1_v38 x1 x2 x3 a m x6 x7 x8 x9) (p1_v39 x1 x2 x3 a m x6 x7 x8 x9) (p1_cst_25 x1 x2 x3 a m x6 x7 x8 x9) (ix2 b n)
      = preRow x1 x3 a I H b ⟨1024 + n.val, by omega⟩ := by
  unfold preRow Spec.pre
  pointwise [k1_pay13, p1_v35, p1_v38, p1_v39, p1_cst_25, k1_pay10, k1_pay11, k1_pay12, k1_pay8, k1_pay5]
  simp only [h7, h9, Spec.hi]

include h6 h7 h8 h9 in
/-- The new cell state. -/
theorem c_at (b : Fin 64) (d : Fin 512) :
    k1_pay14 (p1_v9 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9) (ix2 b d)
      = Spec.cNew (preRow x1 x3 a I H b) (fun k => x2 (ix2 b k)) d := by
  have hA := v30_at x1 x2 x3 a m x6 x7 x8 x9 I H h6 h8 b
  have hB := v41_at x1 x2 x3 a m x6 x7 x8 x9 I H h7 h9 b
  unfold k1_pay14 Spec.cNew
  revert hA hB
  generalize p1_v30 x1 x2 x3 a m x6 x7 x8 x9 = A
  generalize k1_pay13 (p1_v35 x1 x2 x3 a m x6 x7 x8 x9) (p1_v38 x1 x2 x3 a m x6 x7 x8 x9) (p1_v39 x1 x2 x3 a m x6 x7 x8 x9) (p1_cst_25 x1 x2 x3 a m x6 x7 x8 x9) = B
  intro hA hB
  have e : (⟨1024 + (512 + d.val), by omega⟩ : Fin 2048) = ⟨1536 + d.val, by omega⟩ := Fin.ext (by simp only; omega)
  pointwise [p1_v9, k1_pay6]
  simp only [hA, hB, e]

include h6 h7 h8 h9 in
/-- The new hidden state. -/
theorem h_at (b : Fin 64) (d : Fin 512) :
    cNew x1 x2 x3 a m x6 x7 x8 x9 (ix2 b d) = Spec.hNew (preRow x1 x3 a I H b) (fun k => x2 (ix2 b k)) d := by
  have hC := c_at x1 x2 x3 a m x6 x7 x8 x9 I H h6 h7 h8 h9 b
  have hB := v41_at x1 x2 x3 a m x6 x7 x8 x9 I H h7 h9 b
  unfold cNew k1_pay15 Spec.hNew
  revert hC hB
  generalize k1_pay14 (p1_v9 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9) = C
  generalize k1_pay13 (p1_v35 x1 x2 x3 a m x6 x7 x8 x9) (p1_v38 x1 x2 x3 a m x6 x7 x8 x9) (p1_v39 x1 x2 x3 a m x6 x7 x8 x9) (p1_cst_25 x1 x2 x3 a m x6 x7 x8 x9) = B
  intro hC hB
  pointwise
  simp only [hB, hC]

include h6 h7 h8 h9 in
/-- The cell state's output block. -/
theorem csOut_at (b : Fin 64) (d : Fin 512) :
    csOut x1 x2 x3 a m x6 x7 x8 x9 (ix2 b d)
      = Spec.cOut (m (ix3 0 b 0)) (Spec.cNew (preRow x1 x3 a I H b) (fun k => x2 (ix2 b k))) (fun k => x2 (ix2 b k)) d := by
  have hC := c_at x1 x2 x3 a m x6 x7 x8 x9 I H h6 h7 h8 h9 b
  unfold csOut k1_pay16 Spec.cOut
  rw [View.canon_unit_zero (by funext i; fin_cases i <;> rfl)]
  revert hC
  generalize k1_pay14 (p1_v9 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9) = C
  intro hC
  pointwise [p1_v9, p1_v15, k1_pay6, k1_pay7]
  simp only [hC]

include h6 h7 h8 h9 in
/-- The slab of hidden states before the communication: the old one where the unit is not selected. -/
theorem hbSlab_at (z : Fin 1) (b : Fin 64) (d : Fin 512) :
    hbSlab x1 x2 x3 a m x6 x7 x8 x9 (ix3 z b d)
      = m (ix3 0 b 0) * Spec.hNew (preRow x1 x3 a I H b) (fun k => x2 (ix2 b k)) d + (1 - m (ix3 0 b 0)) * x1 (ix2 b d) := by
  have hC := h_at x1 x2 x3 a m x6 x7 x8 x9 I H h6 h7 h8 h9 b
  unfold cNew at hC
  unfold hbSlab k1_pay17
  revert hC
  generalize k1_pay15 (p1_v9 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9) = C
  intro hC
  pointwise [p1_v7, p1_v15, k1_pay5, k1_pay7]
  simp only [hC]

include h6 h7 h8 h9 in
/-- The slab of keys. -/
theorem keySlab_at (x10 : Vec Ideal S1x512x256 .f32) (z : Fin 1) (b : Fin 64) (e : Fin 256) :
    keySlab x1 x2 x3 a m x6 x7 x8 x9 x10 (ix3 z b e)
      = Spec.row (Spec.hNew (preRow x1 x3 a I H b) (fun k => x2 (ix2 b k))) (fun k j => x10 (ix3 0 k j)) e := by
  have hC := h_at x1 x2 x3 a m x6 x7 x8 x9 I H h6 h7 h8 h9 b
  unfold cNew at hC
  unfold keySlab k1_pay18 Spec.row
  revert hC
  generalize k1_pay15 (p1_v9 x1 x2 x3 a m x6 x7 x8 x9) (p1_v30 x1 x2 x3 a m x6 x7 x8 x9) (p1_v35 x1 x2 x3 a m x6 x7 x8 x9) (p1_v38 x1 x2 x3 a m x6 x7 x8 x9) (p1_v39 x1 x2 x3 a m x6 x7 x8 x9) (p1_cst_25 x1 x2 x3 a m x6 x7 x8 x9) = C
  intro hC
  pointwise
  simp only [hC]

include h6 h7 h8 h9 in
/-- The slab of queries. -/
theorem qSlab_at (x11 : Vec Ideal S1x512x256 .f32) (z : Fin 1) (b : Fin 64) (e : Fin 256) :
    qSlab x1 x2 x3 a m x6 x7 x8 x9 x11 (ix3 z b e)
      = Spec.row (Spec.hNew (preRow x1 x3 a I H b) (fun k => x2 (ix2 b k))) (fun k j => x11 (ix3 0 k j)) e := by
  have hC := h_at x1 x2 x3 a m x6 x7 x8 x9 I H h6 h7 h8 h9 b
  unfold qSlab k1_pay1 Spec.row
  revert hC
  generalize cNew x1 x2 x3 a m x6 x7 x8 x9 = C
  intro hC
  pointwise
  simp only [hC]

include h6 h7 h8 h9 in
/-- The left half of the slab of values. -/
theorem valSlabA_at (x12 : Vec Ideal S1x512x1024 .f32) (z : Fin 1) (b : Fin 64) (e : Fin 1024) :
    valSlabA x1 x2 x3 a m x6 x7 x8 x9 x12 (ix3 z b e)
      = Spec.row (Spec.hNew (preRow x1 x3 a I H b) (fun k => x2 (ix2 b k))) (fun k j => x12 (ix3 0 k j)) e := by
  have hC := h_at x1 x2 x3 a m x6 x7 x8 x9 I H h6 h7 h8 h9 b
  unfold valSlabA k1_pay2 Spec.row
  revert hC
  generalize cNew x1 x2 x3 a m x6 x7 x8 x9 = C
  intro hC
  pointwise
  simp only [hC]

include h6 h7 h8 h9 in
/-- The right half of the slab of values. -/
theorem valSlabB_at (x13 : Vec Ideal S1x512x1024 .f32) (z : Fin 1) (b : Fin 64) (e : Fin 1024) :
    valSlabB x1 x2 x3 a m x6 x7 x8 x9 x13 (ix3 z b e)
      = Spec.row (Spec.hNew (preRow x1 x3 a I H b) (fun k => x2 (ix2 b k))) (fun k j => x13 (ix3 0 k j)) e := by
  have hC := h_at x1 x2 x3 a m x6 x7 x8 x9 I H h6 h7 h8 h9 b
  unfold valSlabB k1_pay3 Spec.row
  revert hC
  generalize cNew x1 x2 x3 a m x6 x7 x8 x9 = C
  intro hC
  pointwise
  simp only [hC]

end Phase1

end Cert.Proof.KernelIdeal.Region1

end
-- ==== Proof.Values2.lean ====
/-
  What one iteration of the second region's second phase computes, at an index: four heads of attention of one unit's
  query over the eight units' keys, and the hidden state with the attended values added.
-/
module

public import proofs.«01_k».proof.Proof.KernelIdealRegion1Values
public import proofs.«01_k».proof.Proof.Spec
public import Idealize.ShloMosaic.Lib.Pointwise
public import Idealize.ShloMosaic.Lib.Pipeline.Value

@[expose] public section

set_option maxRecDepth 16384

noncomputable section

namespace Cert.Proof.KernelIdeal.Region1

open Cert.KernelIdeal Cert.KernelIdeal.Gen
open Idealize.ShloMosaic Idealize.ShloMosaic.TcCoe Idealize.ShloMosaic.Tactic

variable {F : FTy → Type} [FloatOps F]

/-- A head's columns of slab `j` of the keys. -/
def keyPart (K : Vec F S8x64x256 .f32) (j : Fin 8) (n : Fin 4) : Vec F S1x64x64 .f32 :=
  View.ld K (Rect.unit (s := S8x64x256) ![j.val, 0, n.val * 64] S1x64x64.size (by revert j n; decide))

/-- A head's columns of slab `j` of the values. -/
def valPart (W : Vec F S8x64x2048 .f32) (j : Fin 8) (n : Fin 4) : Vec F S1x64x512 .f32 :=
  View.ld W (Rect.unit (s := S8x64x2048) ![j.val, 0, n.val * 512] S1x64x512.size (by revert j n; decide))

/-- One column of logits: the products of the rows of the query with the rows of a key. -/
def col (s : FVec F S64x64 .f32) (k : Vec F S1x64x64 .f32) : FVec F S64x1 .f32 :=
  shapeCast S64x1 (multiReduction .add [1] S64 (mulf s (shapeCast S64x64 k shapeCasts_S1x64x64_S64x64)) 0x00000000#32 reduces_S64x64_S64 (.inl rfl) rfl) shapeCasts_S64_S64x1

/-- The logits against the eight keys, side by side. -/
def cols (s : FVec F S64x64 .f32) (k0 k1 k2 k3 k4 k5 k6 k7 : Vec F S1x64x64 .f32) : FVec F S64x8 .f32 :=
  concatenate S64x8 1 [⟨S64x1, col s k0⟩, ⟨S64x1, col s k1⟩, ⟨S64x1, col s k2⟩, ⟨S64x1, col s k3⟩, ⟨S64x1, col s k4⟩, ⟨S64x1, col s k5⟩, ⟨S64x1, col s k6⟩, ⟨S64x1, col s k7⟩] concatenates_S64x1_S64x1_S64x1_S64x1_S64x1_S64x1_S64x1_S64x1_S64x8_d1

/-- The scaled logits. -/
def scaled (l : FVec F S64x8 .f32) : FVec F S64x8 .f32 := mulf l (broadcast S64x8 (Scalar.ofBits .f32 0x3E000000#32))

/-- The exponentials of the scaled logits less their greatest. -/
def expo (l : FVec F S64x8 .f32) : FVec F S64x8 .f32 :=
  exp (subf l (broadcastTo S64x8 (shapeCast S64x1 (multiReduction .maximumf [1] S64 l 0xFF800000#32 reduces_S64x8_S64 (.inl rfl) rfl) shapeCasts_S64_S64x1) broadcasts_S64x1_S64x8))

/-- Rows divided by their sums. -/
def normed (e : FVec F S64x8 .f32) : FVec F S64x8 .f32 :=
  divf e (broadcastTo S64x8 (shapeCast S64x1 (multiReduction .add [1] S64 e 0x00000000#32 reduces_S64x8_S64 (.inl rfl) rfl) shapeCasts_S64_S64x1) broadcasts_S64x1_S64x8)

/-- A head's weights. -/
def weights (s : FVec F S64x64 .f32) (K : Vec F S8x64x256 .f32) (n : Fin 4) : FVec F S64x8 .f32 :=
  normed (expo (scaled (cols s (keyPart K 0 n) (keyPart K 1 n) (keyPart K 2 n) (keyPart K 3 n) (keyPart K 4 n) (keyPart K 5 n) (keyPart K 6 n) (keyPart K 7 n))))

/-- The values mixed by weights. -/
def mix (p : FVec F S64x8 .f32) (w0 w1 w2 w3 w4 w5 w6 w7 : Vec F S1x64x512 .f32) : FVec F S64x512 .f32 :=
  (addf (addf (addf (addf (addf (addf (addf (mulf (broadcastTo S64x512 (extractStridedSlice S64x1 ![0, 0] p slices_S64x8_o0_0_S64x1) broadcasts_S64x1_S64x512) (shapeCast S64x512 w0 shapeCasts_S1x64x512_S64x512))
    (mulf (broadcastTo S64x512 (extractStridedSlice S64x1 ![0, 1] p slices_S64x8_o0_1_S64x1) broadcasts_S64x1_S64x512) (shapeCast S64x512 w1 shapeCasts_S1x64x512_S64x512)))
    (mulf (broadcastTo S64x512 (extractStridedSlice S64x1 ![0, 2] p slices_S64x8_o0_2_S64x1) broadcasts_S64x1_S64x512) (shapeCast S64x512 w2 shapeCasts_S1x64x512_S64x512)))
    (mulf (broadcastTo S64x512 (extractStridedSlice S64x1 ![0, 3] p slices_S64x8_o0_3_S64x1) broadcasts_S64x1_S64x512) (shapeCast S64x512 w3 shapeCasts_S1x64x512_S64x512)))
    (mulf (broadcastTo S64x512 (extractStridedSlice S64x1 ![0, 4] p slices_S64x8_o0_4_S64x1) broadcasts_S64x1_S64x512) (shapeCast S64x512 w4 shapeCasts_S1x64x512_S64x512)))
    (mulf (broadcastTo S64x512 (extractStridedSlice S64x1 ![0, 5] p slices_S64x8_o0_5_S64x1) broadcasts_S64x1_S64x512) (shapeCast S64x512 w5 shapeCasts_S1x64x512_S64x512)))
    (mulf (broadcastTo S64x512 (extractStridedSlice S64x1 ![0, 6] p slices_S64x8_o0_6_S64x1) broadcasts_S64x1_S64x512) (shapeCast S64x512 w6 shapeCasts_S1x64x512_S64x512)))
    (mulf (broadcastTo S64x512 (extractStridedSlice S64x1 ![0, 7] p slices_S64x8_o0_7_S64x1) broadcasts_S64x1_S64x512) (shapeCast S64x512 w7 shapeCasts_S1x64x512_S64x512)))

/-- A head's context. -/
def context (p : FVec F S64x8 .f32) (W : Vec F S8x64x2048 .f32) (n : Fin 4) : FVec F S64x512 .f32 :=
  mix p (valPart W 0 n) (valPart W 1 n) (valPart W 2 n) (valPart W 3 n) (valPart W 4 n) (valPart W 5 n) (valPart W 6 n) (valPart W 7 n)

/-- The heads' contexts side by side. -/
def joined (c0 c1 c2 c3 : FVec F S64x512 .f32) : FVec F S64x2048 .f32 :=
  concatenate S64x2048 1 [⟨S64x512, c0⟩, ⟨S64x512, c1⟩, ⟨S64x512, c2⟩, ⟨S64x512, c3⟩] concatenates_S64x512_S64x512_S64x512_S64x512_S64x2048_d1

section Heads

variable (q : Vec F S1x64x256 .f32) (m : Vec F S1x64x1 .f32) (K : Vec F S8x64x256 .f32) (W : Vec F S8x64x2048 .f32) (x14 x15 : Vec F S1x1024x512 .f32)

/-- The weights of head 0. -/
theorem v65_eq : p2_v65 q m K W x14 = weights (p2_v13 q m K W x14) K 0 := rfl

/-- The context of head 0. -/
theorem v112_eq : p2_v112 q m K W x14 = context (p2_v65 q m K W x14) W 0 := rfl

/-- The weights of head 1. -/
theorem v165_eq : p2_v165 q m K W x14 = weights (p2_v113 q m K W x14) K 1 := rfl

/-- The context of head 1. -/
theorem v212_eq : p2_v212 q m K W x14 = context (p2_v165 q m K W x14) W 1 := rfl

/-- The weights of head 2. -/
theorem v265_eq : p2_v265 q m K W x14 = weights (p2_v213 q m K W x14) K 2 := rfl

/-- The context of head 2. -/
theorem v312_eq : p2_v312 q m K W x14 = context (p2_v265 q m K W x14) W 2 := rfl

/-- The weights of head 3. -/
theorem v365_eq : p2_v365 q m K W x14 = weights (p2_v313 q m K W x14) K 3 := rfl

/-- All contexts: the last head's is finished where they are joined. -/
theorem joined_eq : k1_pay65 (p2_v112 q m K W x14) (p2_v212 q m K W x14) (p2_v312 q m K W x14) (p2_v365 q m K W x14) (p2_v376 q m K W x14) (p2_v377 q m K W x14) (p2_v379 q m K W x14) (valPart W 3 3) (valPart W 4 3) (valPart W 5 3) (valPart W 6 3) (valPart W 7 3)
    = joined (p2_v112 q m K W x14) (p2_v212 q m K W x14) (p2_v312 q m K W x14) (context (p2_v365 q m K W x14) W 3) := rfl

end Heads

/-! ## At an index -/

theorem keyPart_at (K : Vec Ideal S8x64x256 .f32) (j : Fin 8) (n : Fin 4) (b : Fin 64) (i : Fin 64) :
    keyPart K j n (ix3 0 b i) = K (ix3 j b ⟨n.val * 64 + i.val, by omega⟩) := by
  refine congrArg K (funext fun a => Fin.ext ?_)
  fin_cases a <;> simp [Rect.unit, LoadRect.idx]

theorem valPart_at (W : Vec Ideal S8x64x2048 .f32) (j : Fin 8) (n : Fin 4) (b : Fin 64) (d : Fin 512) :
    valPart W j n (ix3 0 b d) = W (ix3 j b ⟨n.val * 512 + d.val, by omega⟩) := by
  refine congrArg W (funext fun a => Fin.ext ?_)
  fin_cases a <;> simp [Rect.unit, LoadRect.idx]

theorem col_at (s : FVec Ideal S64x64 .f32) (k : Vec Ideal S1x64x64 .f32) (b : Fin 64) (z : Fin 1) :
    col s k (ix2 b z) = ∑ i, s (ix2 b i) * k (ix3 0 b i) := by
  unfold col
  pointwise

/-- The logits at an index. -/
theorem cols_at (s : FVec Ideal S64x64 .f32) (k : Fin 8 → Vec Ideal S1x64x64 .f32) (b : Fin 64) (j : Fin 8) :
    cols s (k 0) (k 1) (k 2) (k 3) (k 4) (k 5) (k 6) (k 7) (ix2 b j) = ∑ i, s (ix2 b i) * k j (ix3 0 b i) := by
  unfold cols
  have h0 := fun z => col_at s (k 0) b z
  have h1 := fun z => col_at s (k 1) b z
  have h2 := fun z => col_at s (k 2) b z
  have h3 := fun z => col_at s (k 3) b z
  have h4 := fun z => col_at s (k 4) b z
  have h5 := fun z => col_at s (k 5) b z
  have h6 := fun z => col_at s (k 6) b z
  have h7 := fun z => col_at s (k 7) b z
  revert h0 h1 h2 h3 h4 h5 h6 h7
  generalize col s (k 0) = c0
  generalize col s (k 1) = c1
  generalize col s (k 2) = c2
  generalize col s (k 3) = c3
  generalize col s (k 4) = c4
  generalize col s (k 5) = c5
  generalize col s (k 6) = c6
  generalize col s (k 7) = c7
  intro h0 h1 h2 h3 h4 h5 h6 h7
  pointwise
  fin_vals j with hj
  · obtain rfl : j = 0 := Fin.ext hj
    exact h0 0
  · obtain rfl : j = 1 := Fin.ext hj
    exact h1 0
  · obtain rfl : j = 2 := Fin.ext hj
    exact h2 0
  · obtain rfl : j = 3 := Fin.ext hj
    exact h3 0
  · obtain rfl : j = 4 := Fin.ext hj
    exact h4 0
  · obtain rfl : j = 5 := Fin.ext hj
    exact h5 0
  · obtain rfl : j = 6 := Fin.ext hj
    exact h6 0
  · obtain rfl : j = 7 := Fin.ext hj
    exact h7 0

theorem expo_at (l : FVec Ideal S64x8 .f32) (b : Fin 64) (j : Fin 8) :
    expo l (ix2 b j) = Ideal.exp (l (ix2 b j) - Finset.univ.fold max ⊥ (fun i => l (ix2 b i))) := by
  unfold expo
  pointwise
  rw [Spec.bits_bot]

theorem normed_at (e : FVec Ideal S64x8 .f32) (b : Fin 64) (j : Fin 8) :
    normed e (ix2 b j) = Ideal.div (e (ix2 b j)) (∑ i, e (ix2 b i)) := by
  unfold normed
  pointwise

theorem scaled_at (l : FVec Ideal S64x8 .f32) (b : Fin 64) (j : Fin 8) :
    scaled l (ix2 b j) = l (ix2 b j) * ((1 / 8 : ℝ) : EReal) := by
  unfold scaled
  pointwise
  rw [Spec.bits_eighth]

/-- A head's weights at an index are the softmax of its logits. -/
theorem weights_at (s : FVec Ideal S64x64 .f32) (K : Vec Ideal S8x64x256 .f32) (n : Fin 4) (Q : Fin 256 → EReal)
    (b : Fin 64) (hs : ∀ i : Fin 64, s (ix2 b i) = Q ⟨n.val * 64 + i.val, by omega⟩) (j : Fin 8) :
    weights s K n (ix2 b j) = Spec.soft (Spec.logit Q (fun u e => K (ix3 u b e)) n) j := by
  have hl : ∀ u : Fin 8, scaled (cols s (keyPart K 0 n) (keyPart K 1 n) (keyPart K 2 n) (keyPart K 3 n) (keyPart K 4 n) (keyPart K 5 n) (keyPart K 6 n) (keyPart K 7 n)) (ix2 b u)
      = Spec.logit Q (fun u e => K (ix3 u b e)) n u := by
    intro u
    rw [scaled_at, cols_at s (fun u => keyPart K u n)]
    simp only [keyPart_at, hs]
    rfl
  unfold weights Spec.soft
  rw [normed_at]
  simp only [expo_at, hl]

theorem mix_at (p : FVec Ideal S64x8 .f32) (w : Fin 8 → Vec Ideal S1x64x512 .f32) (b : Fin 64) (d : Fin 512) :
    mix p (w 0) (w 1) (w 2) (w 3) (w 4) (w 5) (w 6) (w 7) (ix2 b d) = ∑ j, p (ix2 b j) * w j (ix3 0 b d) := by
  unfold mix
  rw [Fin.sum_univ_eight]
  pointwise

/-- A head's context at an index. -/
theorem context_at (p : FVec Ideal S64x8 .f32) (W : Vec Ideal S8x64x2048 .f32) (n : Fin 4) (b : Fin 64) (d : Fin 512) :
    context p W n (ix2 b d) = ∑ j, p (ix2 b j) * W (ix3 j b ⟨n.val * 512 + d.val, by omega⟩) := by
  unfold context
  rw [mix_at p (fun j => valPart W j n)]
  simp only [valPart_at]

/-- The joined contexts at an index. -/
theorem joined_at (c : Fin 4 → FVec Ideal S64x512 .f32) (b : Fin 64) (k : Fin 2048) :
    joined (c 0) (c 1) (c 2) (c 3) (ix2 b k) = c ⟨k.val / 512, by omega⟩ (ix2 b ⟨k.val % 512, by omega⟩) := by
  unfold joined
  have hk : ∃ (n : Fin 4) (d : Fin 512), k = ⟨n.val * 512 + d.val, by omega⟩ :=
    ⟨⟨k.val / 512, by omega⟩, ⟨k.val % 512, by omega⟩, Fin.ext (by simp only; omega)⟩
  obtain ⟨n, d, rfl⟩ := hk
  have e1 : (⟨(n.val * 512 + d.val) / 512, by omega⟩ : Fin 4) = n := Fin.ext (by simp only; omega)
  have e2 : (⟨(n.val * 512 + d.val) % 512, by omega⟩ : Fin 512) = d := Fin.ext (by simp only; omega)
  simp only [e1, e2]
  pointwise
  fin_cases n
  · rw [dif_pos (by simp only; omega)]
    exact congrArg (fun e => c 0 (ix2 b e)) (Fin.ext (by simp))
  · rw [dif_neg (by simp only; omega), dif_pos (by simp only; omega)]
    exact congrArg (fun e => c 1 (ix2 b e)) (Fin.ext (by simp))
  · rw [dif_neg (by simp only; omega), dif_neg (by simp only; omega), dif_pos (by simp only; omega)]
    exact congrArg (fun e => c 2 (ix2 b e)) (Fin.ext (by simp only; omega))
  · rw [dif_neg (by simp only; omega), dif_neg (by simp only; omega), dif_neg (by simp only; omega)]
    exact congrArg (fun e => c 3 (ix2 b e)) (Fin.ext (by simp only; omega))

section Out

variable (q : Vec Ideal S1x64x256 .f32) (m : Vec Ideal S1x64x1 .f32) (K : Vec Ideal S8x64x256 .f32) (W : Vec Ideal S8x64x2048 .f32) (x14 x15 : Vec Ideal S1x1024x512 .f32)

theorem head0_at (b i : Fin 64) : p2_v13 q m K W x14 (ix2 b i) = q (ix3 0 b ⟨i.val, by omega⟩) := by
  pointwise [p2_v13, k1_pay21, k1_pay19]

theorem head1_at (b i : Fin 64) : p2_v113 q m K W x14 (ix2 b i) = q (ix3 0 b ⟨64 + i.val, by omega⟩) := by
  pointwise [p2_v113, p2_v9, k1_pay31, k1_pay19]

theorem head2_at (b i : Fin 64) : p2_v213 q m K W x14 (ix2 b i) = q (ix3 0 b ⟨128 + i.val, by omega⟩) := by
  pointwise [p2_v213, p2_v9, k1_pay46, k1_pay19]

theorem head3_at (b i : Fin 64) : p2_v313 q m K W x14 (ix2 b i) = q (ix3 0 b ⟨192 + i.val, by omega⟩) := by
  pointwise [p2_v313, p2_v9, k1_pay54, k1_pay19]

/-- The joined contexts. -/
def ctxAll : FVec Ideal S64x2048 .f32 :=
  joined (p2_v112 q m K W x14) (p2_v212 q m K W x14) (p2_v312 q m K W x14) (context (p2_v365 q m K W x14) W 3)

/-- The joined contexts at an index: the four heads of attention. -/
theorem ctxAll_at (b : Fin 64) (k : Fin 2048) :
    ctxAll q m K W x14 (ix2 b k) = Spec.ctx (fun e => q (ix3 0 b e)) (fun j e => K (ix3 j b e)) (fun j e => W (ix3 j b e)) k := by
  have h : ∀ n : Fin 4, (![p2_v112 q m K W x14, p2_v212 q m K W x14, p2_v312 q m K W x14, context (p2_v365 q m K W x14) W 3] : Fin 4 → FVec Ideal S64x512 .f32) n
      = context (weights (![p2_v13 q m K W x14, p2_v113 q m K W x14, p2_v213 q m K W x14, p2_v313 q m K W x14] n) K n) W n := by
    intro n; fin_cases n <;> rfl
  have hh : ∀ (n : Fin 4) (i : Fin 64), (![p2_v13 q m K W x14, p2_v113 q m K W x14, p2_v213 q m K W x14, p2_v313 q m K W x14] n) (ix2 b i)
      = q (ix3 0 b ⟨n.val * 64 + i.val, by omega⟩) := by
    intro n i; fin_cases n
    · exact (head0_at q m K W x14 b i).trans (congrArg (fun e => q (ix3 0 b e)) (Fin.ext (by simp)))
    · exact (head1_at q m K W x14 b i).trans (congrArg (fun e => q (ix3 0 b e)) (Fin.ext (by simp)))
    · exact (head2_at q m K W x14 b i).trans (congrArg (fun e => q (ix3 0 b e)) (Fin.ext (by simp)))
    · exact (head3_at q m K W x14 b i).trans (congrArg (fun e => q (ix3 0 b e)) (Fin.ext (by simp)))
  refine (joined_at ![p2_v112 q m K W x14, p2_v212 q m K W x14, p2_v312 q m K W x14, context (p2_v365 q m K W x14) W 3] b k).trans ?_
  rw [h, context_at]
  unfold Spec.ctx
  refine Finset.sum_congr rfl fun j _ => ?_
  rw [weights_at _ K _ (fun e => q (ix3 0 b e)) b (hh _)]
  have ek : (⟨k.val / 512 * 512 + k.val % 512, by omega⟩ : Fin 2048) = k := Fin.ext (by simp only; omega)
  simp only [ek]

/-- The hidden state's output block: the mixed old and new states, with the attended values through their weights
    added where the unit is selected. -/
theorem hsOut_at (hb : Vec Ideal S1x64x512 .f32) (Co : Fin 2048 → Fin 512 → EReal)
    (h14 : ∀ k d, x14 (ix3 0 k d) = Co ⟨k.val, by omega⟩ d) (h15 : ∀ k d, x15 (ix3 0 k d) = Co ⟨1024 + k.val, by omega⟩ d)
    (b : Fin 64) (d : Fin 512) :
    hsOut q m K W x14 x15 hb (ix2 b d) = hb (ix3 0 b d) + m (ix3 0 b 0)
      * Spec.row (Spec.ctx (fun e => q (ix3 0 b e)) (fun j e => K (ix3 j b e)) (fun j e => W (ix3 j b e))) Co d := by
  have hc := ctxAll_at q m K W x14 b
  unfold hsOut k1_pay4
  rw [View.canon_unit_zero (by funext i; fin_cases i <;> rfl)]
  have h9 : p2_v419 q m K W x14 = matmul dot_S64x1024_S1024x512_S64x512_1_0_0_1_n_n none
      (truncf .bf16 (extractStridedSlice S64x1024 ![0, 0] (ctxAll q m K W x14) slices_S64x2048_o0_0_S64x1024) bitsLt_bf16_f32)
      (truncf .bf16 (shapeCast S1024x512 (View.ld x14 (Rect.unit (s := S1x1024x512) ![0, 0, 0] S1x1024x512.size inb_S1x1024x512_S1x1024x512_0_0_0)) shapeCasts_S1x1024x512_S1024x512) bitsLt_bf16_f32)
      (constant S64x512 .f32 0x00000000#32) := rfl
  have h20 : p2_v420 q m K W x14 = extractStridedSlice S64x1024 ![0, 1024] (ctxAll q m K W x14) slices_S64x2048_o0_1024_S64x1024 := rfl
  rw [h9, h20]
  revert hc
  generalize ctxAll q m K W x14 = C
  intro hc
  unfold Spec.row
  rw [Fin.sum_univ_two_halves 1024 1024 rfl]
  pointwise [p2_v12, k1_pay20]
  simp only [hc, h14, h15]

end Out

end Cert.Proof.KernelIdeal.Region1

end
-- ==== Proof.Blocks.lean ====
/-
  The regions' windows at an index: which entries of the arrays a window's block at a grid point holds, and what the
  output arrays hold after the run.
-/
module

public import proofs.«01_k».proof.Proof.KernelIdealRun
public import proofs.«01_k».proof.Proof.Values0
public import proofs.«01_k».proof.Proof.Values1
public import proofs.«01_k».proof.Proof.Values2
public import Idealize.ShloMosaic.Lib.Pipeline.ValueKit

@[expose] public section

set_option maxRecDepth 16384

noncomputable section

namespace Cert.Proof.KernelIdeal.Region1

open Cert.KernelIdeal Cert.KernelIdeal.Gen
open Idealize.ShloMosaic Idealize.ShloMosaic.TcCoe Idealize.ShloMosaic.Tactic

/-! ## The second region's input blocks -/

variable {F : FTy → Type} [FloatOps F] (V : Dev nD → Valuation τ sig (Elt F)) (c : Dev nD) (u : Fin 8)

/-- The second-phase point of unit `u`. -/
def pt8 (u : Fin 8) : Fin cfg1.N := ⟨8 + u.val, by have : cfg1.N = 16 := N_1; have := u.isLt; omega⟩

theorem idx0 : ∀ u : Fin 8, win1_0.index (pt u) = ![0, u.val] := by decide +kernel

theorem blk0 (b : Fin 64) (k : Fin 512) : iblk V c 0 (pt u) (ix2 b k) = V c main_v1 (ix2 b ⟨512 * u.val + k.val, by omega⟩) := by
  refine congrArg (V c main_v1) (funext fun a => Fin.ext ?_)
  blk_simp [idx0]
  fin_cases a <;> simp <;> omega

theorem idx1 : ∀ u : Fin 8, win1_1.index (pt u) = ![0, u.val] := by decide +kernel

theorem blk1 (b : Fin 64) (k : Fin 512) : iblk V c 1 (pt u) (ix2 b k) = V c main_v2 (ix2 b ⟨512 * u.val + k.val, by omega⟩) := by
  refine congrArg (V c main_v2) (funext fun a => Fin.ext ?_)
  blk_simp [idx1]
  fin_cases a <;> simp <;> omega

theorem idx2 : ∀ t : Fin cfg1.N, win1_2.index t = ![0, 0] := by decide +kernel

theorem blk2 (t : Fin cfg1.N) : iblk V c 2 t = V c main_v3_0 := by
  funext y
  refine congrArg (V c main_v3_0) (funext fun a => Fin.ext ?_)
  blk_simp [idx2]
  fin_cases a <;> simp

theorem idx3 : ∀ t : Fin cfg1.N, win1_3.index t = ![0, 0, 0] := by decide +kernel

theorem blk3 (t : Fin cfg1.N) : iblk V c 3 t = V c main_v3_1 := by
  funext y
  refine congrArg (V c main_v3_1) (funext fun a => Fin.ext ?_)
  blk_simp [idx3]
  fin_cases a <;> simp

theorem idx4 : ∀ t : Fin cfg1.N, win1_4.index t = ![0, 0, 0] := by decide +kernel

theorem blk4 (t : Fin cfg1.N) : iblk V c 4 t = V c main_v3_2 := by
  funext y
  refine congrArg (V c main_v3_2) (funext fun a => Fin.ext ?_)
  blk_simp [idx4]
  fin_cases a <;> simp

theorem idx5 : ∀ u : Fin 8, win1_5.index (pt u) = ![u.val, 0, 0] := by decide +kernel

theorem blk5 (k : Fin 512) (n : Fin 1024) : iblk V c 5 (pt u) (ix3 0 k n) = V c main_arg6 (ix3 u k ⟨n.val, by omega⟩) := by
  refine congrArg (V c main_arg6) (funext fun a => Fin.ext ?_)
  blk_simp [idx5]
  fin_cases a <;> simp

theorem idx6 : ∀ u : Fin 8, win1_6.index (pt u) = ![u.val, 0, 1] := by decide +kernel

theorem blk6 (k : Fin 512) (n : Fin 1024) : iblk V c 6 (pt u) (ix3 0 k n) = V c main_arg6 (ix3 u k ⟨1024 + n.val, by omega⟩) := by
  refine congrArg (V c main_arg6) (funext fun a => Fin.ext ?_)
  blk_simp [idx6]
  fin_cases a <;> simp

theorem idx7 : ∀ u : Fin 8, win1_7.index (pt u) = ![u.val, 0, 0] := by decide +kernel

theorem blk7 (k : Fin 512) (n : Fin 1024) : iblk V c 7 (pt u) (ix3 0 k n) = V c main_arg7 (ix3 u k ⟨n.val, by omega⟩) := by
  refine congrArg (V c main_arg7) (funext fun a => Fin.ext ?_)
  blk_simp [idx7]
  fin_cases a <;> simp

theorem idx8 : ∀ u : Fin 8, win1_8.index (pt u) = ![u.val, 0, 1] := by decide +kernel

theorem blk8 (k : Fin 512) (n : Fin 1024) : iblk V c 8 (pt u) (ix3 0 k n) = V c main_arg7 (ix3 u k ⟨1024 + n.val, by omega⟩) := by
  refine congrArg (V c main_arg7) (funext fun a => Fin.ext ?_)
  blk_simp [idx8]
  fin_cases a <;> simp

theorem idx9 : ∀ u : Fin 8, win1_9.index (pt u) = ![u.val, 0, 0] := by decide +kernel

theorem blk9 (k : Fin 512) (n : Fin 256) : iblk V c 9 (pt u) (ix3 0 k n) = V c main_arg8 (ix3 u k n) := by
  refine congrArg (V c main_arg8) (funext fun a => Fin.ext ?_)
  blk_simp [idx9]
  fin_cases a <;> simp

theorem idx10 : ∀ u : Fin 8, win1_10.index (pt u) = ![u.val, 0, 0] := by decide +kernel

theorem blk10 (k : Fin 512) (n : Fin 256) : iblk V c 10 (pt u) (ix3 0 k n) = V c main_arg9 (ix3 u k n) := by
  refine congrArg (V c main_arg9) (funext fun a => Fin.ext ?_)
  blk_simp [idx10]
  fin_cases a <;> simp

theorem idx11 : ∀ u : Fin 8, win1_11.index (pt u) = ![u.val, 0, 0] := by decide +kernel

theorem blk11 (k : Fin 512) (n : Fin 1024) : iblk V c 11 (pt u) (ix3 0 k n) = V c main_arg10 (ix3 u k ⟨n.val, by omega⟩) := by
  refine congrArg (V c main_arg10) (funext fun a => Fin.ext ?_)
  blk_simp [idx11]
  fin_cases a <;> simp

theorem idx12 : ∀ u : Fin 8, win1_12.index (pt u) = ![u.val, 0, 1] := by decide +kernel

theorem blk12 (k : Fin 512) (n : Fin 1024) : iblk V c 12 (pt u) (ix3 0 k n) = V c main_arg10 (ix3 u k ⟨1024 + n.val, by omega⟩) := by
  refine congrArg (V c main_arg10) (funext fun a => Fin.ext ?_)
  blk_simp [idx12]
  fin_cases a <;> simp

theorem idx13 : ∀ u : Fin 8, win1_13.index (pt8 u) = ![u.val, 0, 0] := by decide +kernel

theorem blk13 (k : Fin 1024) (n : Fin 512) : iblk V c 13 (pt8 u) (ix3 0 k n) = V c main_arg11 (ix3 u ⟨k.val, by omega⟩ n) := by
  refine congrArg (V c main_arg11) (funext fun a => Fin.ext ?_)
  blk_simp [idx13]
  fin_cases a <;> simp

theorem idx14 : ∀ u : Fin 8, win1_14.index (pt8 u) = ![u.val, 1, 0] := by decide +kernel

theorem blk14 (k : Fin 1024) (n : Fin 512) : iblk V c 14 (pt8 u) (ix3 0 k n) = V c main_arg11 (ix3 u ⟨1024 + k.val, by omega⟩ n) := by
  refine congrArg (V c main_arg11) (funext fun a => Fin.ext ?_)
  blk_simp [idx14]
  fin_cases a <;> simp

/-! ## The second region's output arrays -/

/-- The cell states, all units side by side. -/
def csAll : Vec F S64x4096 .f32 := fun y =>
  csAt V c (pt ⟨(y 1).val / 512, by have : (y 1).val < 4096 := (y 1).isLt; omega⟩) (ix2 (y 0) ⟨(y 1).val % 512, by omega⟩)

/-- The hidden states, all units side by side. -/
def hsAll : Vec F S64x4096 .f32 := fun y =>
  hsAt V c (pt8 ⟨(y 1).val / 512, by have : (y 1).val < 4096 := (y 1).isLt; omega⟩) (ix2 (y 0) ⟨(y 1).val % 512, by omega⟩)

theorem idx15 : ∀ t : Fin cfg1.N, win1_15.index t = ![0, min t.val 7] := by decide +kernel
theorem idx16 : ∀ t : Fin cfg1.N, 8 ≤ t.val → win1_16.index t = ![0, t.val - 8] := by decide +kernel

/-- A cell state's place among all. -/
theorem csAll_at (u : Fin 8) (i : S64x4096.Idx) (b : Fin 64) (d : Fin 512) (h0 : (i 0).val = b.val) (h1 : (i 1).val = u.val * 512 + d.val) :
    csAll V c i = csAt V c (pt u) (ix2 b d) := by
  have e1 : (⟨(i 1).val / 512, by have : (i 1).val < 4096 := (i 1).isLt; omega⟩ : Fin 8) = u := Fin.ext (by simp only; omega)
  have e2 : (⟨(i 1).val % 512, by omega⟩ : Fin 512) = d := Fin.ext (by simp only; omega)
  have e0 : i 0 = b := Fin.ext h0
  unfold csAll
  rw [e1, e2, e0]

/-- A hidden state's place among all. -/
theorem hsAll_at (u : Fin 8) (i : S64x4096.Idx) (b : Fin 64) (d : Fin 512) (h0 : (i 0).val = b.val) (h1 : (i 1).val = u.val * 512 + d.val) :
    hsAll V c i = hsAt V c (pt8 u) (ix2 b d) := by
  have e1 : (⟨(i 1).val / 512, by have : (i 1).val < 4096 := (i 1).isLt; omega⟩ : Fin 8) = u := Fin.ext (by simp only; omega)
  have e2 : (⟨(i 1).val % 512, by omega⟩ : Fin 512) = d := Fin.ext (by simp only; omega)
  have e0 : i 0 = b := Fin.ext h0
  unfold hsAll
  rw [e1, e2, e0]

/-- The first output array after the run. -/
theorem arr15 : (dat V c).arrAt 15 cfg1.N = csAll V c := by
  refine (dat V c).arrAt_eq_of_covers 15 _ (by decide +kernel) fun t hf y => ?_
  have hb := idx15 t
  have hfl : t.val < 7 ∨ t.val = 15 := by have := flush15 t; rw [show win1_15.flush t = true from hf] at this; simpa using this
  have e : (dat V c).after 15 t = csAt V c (pt ⟨min t.val 7, by omega⟩) := by
    rw [after15]
    rcases hfl with h | h
    · rw [if_pos (by omega)]; exact congrArg (csAt V c) (Fin.ext (by simp [pt]; omega))
    · rw [if_neg (by omega)]; exact congrArg (csAt V c) (Fin.ext (by simp [pt]; omega))
  blk_simp
  rw [e]
  refine Eq.trans ?_ (csAll_at V c ⟨min t.val 7, by omega⟩ _ (y 0) (y 1) ?_ ?_).symm
  · exact congrArg (csAt V c (pt ⟨min t.val 7, by omega⟩)) (eq_ix2 y)
  · blk_simp [hb]
  · blk_simp [hb]

/-- The second output array after the run. -/
theorem arr16 : (dat V c).arrAt 16 cfg1.N = hsAll V c := by
  refine (dat V c).arrAt_eq_of_covers 16 _ (by decide +kernel) fun t hf y => ?_
  have hfl : 8 ≤ t.val := by have := flush16 t; rw [show win1_16.flush t = true from hf] at this; simpa using this
  have hb := idx16 t hfl
  blk_simp
  rw [after16]
  have et : pt8 ⟨t.val - 8, by have : t.val < 16 := lt_of_lt_of_eq t.isLt N_1; omega⟩ = t := Fin.ext (by simp only [pt8]; omega)
  refine Eq.trans ?_ (hsAll_at V c ⟨t.val - 8, by have : t.val < 16 := lt_of_lt_of_eq t.isLt N_1; omega⟩ _ (y 0) (y 1) ?_ ?_).symm
  · rw [et]; exact congrArg (hsAt V c t) (eq_ix2 y)
  · blk_simp [hb]
  · blk_simp [hb]

end Cert.Proof.KernelIdeal.Region1

end
-- ==== Proof.Reals.lean ====
/-
  Where the inputs are real numbers: the score by heads and the score at once, the mean of the projections and the
  projection by the mean, and the two-way softmax against a zero score as the logistic function.
-/
module

public import proofs.«01_k».proof.Proof.Spec

@[expose] public section

noncomputable section

namespace Cert.Proof.Spec

open Idealize.ShloMosaic

/-- A sum of real numbers is real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a real number that is not zero. -/
theorem div_real (x y : ℝ) (h : y ≠ 0) : Ideal.div (x : EReal) (y : EReal) = ((x / y : ℝ) : EReal) := by
  rw [Ideal.div_coe h, ← EReal.coe_mul, mul_one_div]

/-- A function with real values is one into the reals. -/
theorem exists_real {ι : Type*} (f : ι → EReal) (h : ∀ i, ∃ r : ℝ, f i = (r : EReal)) : ∃ g : ι → ℝ, f = fun i => (g i : EReal) :=
  ⟨fun i => (h i).choose, funext fun i => (h i).choose_spec⟩

/-- The position `64 h + k` of a row of 256. -/
def at64 (h : Fin 4) (k : Fin 64) : Fin 256 := ⟨h.val * 64 + k.val, by omega⟩

/-- A sum over 256 positions, four heads of 64. -/
theorem sum_heads (f : Fin 256 → ℝ) : (∑ h : Fin 4, ∑ k : Fin 64, f (at64 h k)) = ∑ j, f j := by
  rw [← Fintype.sum_prod_type']
  refine Fintype.sum_equiv (finProdFinEquiv (m := 4) (n := 64)) _ _ fun p => congrArg f (Fin.ext ?_)
  show p.1.val * 64 + p.2.val = p.2.val + 64 * p.1.val
  omega

/-- The score taken head by head, each divided by eight, and averaged, is the score taken at once. -/
theorem score_heads (x : Fin 1024 → ℝ) (h : Fin 512 → ℝ) (Wk : Fin 1024 → Fin 256 → ℝ) (Wq : Fin 512 → Fin 256 → ℝ) :
    Ideal.div (∑ n : Fin 4, Ideal.div (∑ i : Fin 64, (∑ k, (Wq k (at64 n i) : EReal) * (h k : EReal)) * ∑ k, (x k : EReal) * (Wk k (at64 n i) : EReal)) ((8 : ℝ) : EReal)) ((4 : ℝ) : EReal)
      = score (fun k => (x k : EReal)) (fun k => (h k : EReal)) (fun k j => (Wk k j : EReal)) (fun k j => (Wq k j : EReal)) := by
  unfold score row
  simp only [← EReal.coe_mul, ← coe_sum, div_real _ _ (by norm_num : (8 : ℝ) ≠ 0), div_real _ _ (by norm_num : (4 : ℝ) ≠ 0)]
  rw [EReal.coe_eq_coe_iff, ← Finset.sum_div, sum_heads fun j => (∑ k, Wq k j * h k) * ∑ k, x k * Wk k j, div_div, div_eq_mul_one_div]
  norm_num
  exact Finset.sum_congr rfl fun j _ => congrArg (· * _) (Finset.sum_congr rfl fun k _ => mul_comm _ _)

/-- The projections averaged over the heads are the projection by the averaged weights. -/
theorem value_heads (x : Fin 1024 → ℝ) (Wv : Fin 1024 → Fin 2048 → ℝ) (d : Fin 512) :
    Ideal.div (∑ n : Fin 4, ∑ k, (x k : EReal) * (Wv k ⟨n.val * 512 + d.val, by omega⟩ : EReal)) ((4 : ℝ) : EReal)
      = value (fun k => (x k : EReal)) (fun k e => (Wv k e : EReal)) d := by
  unfold value
  simp only [← EReal.coe_mul, ← EReal.coe_add, ← coe_sum, div_real _ _ (by norm_num : (4 : ℝ) ≠ 0)]
  rw [EReal.coe_eq_coe_iff, Finset.sum_comm, Finset.sum_div]
  refine Finset.sum_congr rfl fun k _ => ?_
  rw [Fin.sum_univ_four]
  have e0 : (⟨(0 : Fin 4).val * 512 + d.val, by simp; omega⟩ : Fin 2048) = ⟨d.val, by omega⟩ := Fin.ext (by simp)
  have e1 : (⟨(1 : Fin 4).val * 512 + d.val, by simp; omega⟩ : Fin 2048) = ⟨512 + d.val, by omega⟩ := Fin.ext (by simp)
  have e2 : (⟨(2 : Fin 4).val * 512 + d.val, by simp; omega⟩ : Fin 2048) = ⟨1024 + d.val, by omega⟩ := Fin.ext (by simp)
  have e3 : (⟨(3 : Fin 4).val * 512 + d.val, by simp; omega⟩ : Fin 2048) = ⟨1536 + d.val, by omega⟩ := Fin.ext (by simp)
  rw [e0, e1, e2, e3]
  ring

/-- The score of real inputs is real. -/
theorem score_real (x : Fin 1024 → ℝ) (h : Fin 512 → ℝ) (Wk : Fin 1024 → Fin 256 → ℝ) (Wq : Fin 512 → Fin 256 → ℝ) :
    ∃ r : ℝ, score (fun k => (x k : EReal)) (fun k => (h k : EReal)) (fun k j => (Wk k j : EReal)) (fun k j => (Wq k j : EReal)) = (r : EReal) := by
  unfold score row
  simp only [← EReal.coe_mul, ← coe_sum]
  exact ⟨_, rfl⟩

/-- The maximum of two real numbers, folded from below all. -/
theorem fold_two (f : Fin 2 → EReal) : max ⊥ (Finset.univ.fold max ⊥ f) = max (f 0) (f 1) := by
  have h : (Finset.univ : Finset (Fin 2)) = {0, 1} := rfl
  rw [h, Finset.fold_insert (by decide), Finset.fold_singleton]
  simp

/-- The softmax of a real score against zero is the logistic function of the score. -/
theorem soft_two (s : ℝ) :
    Ideal.div (Ideal.exp ((s : EReal) - max (s : EReal) 0)) (Ideal.exp ((s : EReal) - max (s : EReal) 0) + Ideal.exp (0 - max (s : EReal) 0))
      = Ideal.logistic (s : EReal) := by
  have hm : max (s : EReal) 0 = ((max s 0 : ℝ) : EReal) := by
    rw [← EReal.coe_zero]; exact (EReal.coe_strictMono.monotone.map_max).symm
  rw [hm, ← EReal.coe_zero, ← EReal.coe_sub, ← EReal.coe_sub, Ideal.exp_coe, Ideal.exp_coe, ← EReal.coe_add, Ideal.logistic_coe]
  have hp : Real.exp (s - max s 0) + Real.exp (0 - max s 0) ≠ 0 := by positivity
  rw [div_real _ _ hp, EReal.coe_eq_coe_iff]
  have h2 : Real.exp (0 - max s 0) = Real.exp (s - max s 0) * Real.exp (-s) := by
    rw [← Real.exp_add]; congr 1; ring
  have h1 : Real.exp (s - max s 0) ≠ 0 := (Real.exp_pos _).ne'
  have h3 : 1 + Real.exp (-s) ≠ 0 := by positivity
  rw [h2]
  field_simp

end Cert.Proof.Spec

end
-- ==== Proof.TopK.lean ====
/-
  The four first positions of the stable sort of eight scores, greater first, are the positions of rank below four.
-/
module

public import proofs.«01_k».proof.Proof.Spec
public import Idealize.ShloMosaic.Lib.SortFacts

@[expose] public section

noncomputable section

namespace Cert.Proof.Spec

open Idealize.ShloMosaic

variable {n : ℕ} (s : Fin n → EReal)

/-- Position `a` comes before position `b`: a greater score, or an equal one at a lower position. -/
def Before (a b : Fin n) : Prop := s b < s a ∨ (s a = s b ∧ a < b)

/-- Sorting strictly by the score alone. -/
def greater (a b : Fin n) : Bool := decide (s b < s a)

/-- Inserting a position lower than all those of an ordered list keeps it ordered. -/
theorem pairwise_insert (a : Fin n) (l : List (Fin n)) (hl : l.Pairwise (Before s)) (ha : ∀ b ∈ l, a < b) :
    (insertBefore (greater s) a l).Pairwise (Before s) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact Or.inl (of_decide_eq_true h)
      · exact hl.1 c hc'
    · rename_i h
      have hba : s b ≤ s a := not_lt.1 fun h' => h (decide_eq_true h')
      refine List.pairwise_cons.mpr ⟨fun c hc => ?_, List.pairwise_cons.mpr hl⟩
      have hac : a < c := ha c hc
      have hcb : s c ≤ s b := by
        rcases List.mem_cons.mp hc with rfl | hc'
        · exact le_rfl
        · rcases hl.1 c hc' with h1 | h1
          · exact h1.le
          · exact h1.1.ge
      rcases lt_or_eq_of_le (hcb.trans hba) with h1 | h1
      · exact Or.inl h1
      · exact Or.inr ⟨h1.symm, hac⟩

/-- The stable sort of an ascending list of positions is ordered. -/
theorem pairwise_sort (l : List (Fin n)) (hl : l.Pairwise (· < ·)) : (stableSort (greater s) l).Pairwise (Before s) := by
  induction l with
  | nil => exact List.Pairwise.nil
  | cons a l ih =>
    rw [List.pairwise_cons] at hl
    unfold stableSort
    exact pairwise_insert s a _ (ih hl.2) fun b hb => hl.1 b ((perm_stableSort _ l).mem_iff.mp hb)

/-- An earlier place of the sort holds a position that comes before. -/
theorem before_of_lt (p q : Fin n) (h : p < q) : Before s (sortedFrom (greater s) p) (sortedFrom (greater s) q) := by
  have hp := List.pairwise_iff_get.mp (pairwise_sort s (List.finRange n) (List.pairwise_lt_finRange n))
  unfold sortedFrom
  exact hp _ _ h

/-- Coming before is asymmetric. -/
theorem before_asymm {a b : Fin n} (h : Before s a b) : ¬ Before s b a := by
  rintro (h' | h') <;> rcases h with h | h
  · exact lt_asymm h h'
  · exact absurd h.1 h'.ne
  · exact absurd h'.1 h.ne
  · exact lt_asymm h.2 h'.2

/-- Places and what they hold are ordered alike. -/
theorem before_iff (p q : Fin n) : Before s (sortedFrom (greater s) p) (sortedFrom (greater s) q) ↔ p < q := by
  refine ⟨fun h => ?_, before_of_lt s p q⟩
  rcases lt_trichotomy p q with h1 | h1 | h1
  · exact h1
  · subst h1; exact absurd h (before_asymm s h)
  · exact absurd h (before_asymm s (before_of_lt s q p h1))

/-- The position at place `p` of the sort has rank `p`. -/
theorem rank_sortedFrom (p : Fin n) : rank s (sortedFrom (greater s) p) = p.val := by
  have hinj := sortedFrom_injective (greater s)
  have hsurj := sortedFrom_surjective (greater s)
  have e : (Finset.univ.filter fun x => s (sortedFrom (greater s) p) < s x ∨ (s x = s (sortedFrom (greater s) p) ∧ x < sortedFrom (greater s) p))
      = (Finset.Iio p).image (sortedFrom (greater s)) := by
    ext x
    obtain ⟨q, rfl⟩ := hsurj x
    simp only [Finset.mem_filter, Finset.mem_univ, true_and, Finset.mem_image, Finset.mem_Iio]
    constructor
    · intro h; exact ⟨q, (before_iff s q p).1 h, rfl⟩
    · rintro ⟨r, hr, hrq⟩
      rw [hinj hrq] at hr
      exact (before_iff s q p).2 hr
  unfold rank
  rw [e, Finset.card_image_of_injective _ hinj, Fin.card_Iio]

/-- A position has rank below `k` exactly when it is at one of the first `k` places. -/
theorem rank_lt_iff (j : Fin n) (k : ℕ) : rank s j < k ↔ ∃ p : Fin n, p.val < k ∧ sortedFrom (greater s) p = j := by
  constructor
  · intro h
    obtain ⟨p, rfl⟩ := sortedFrom_surjective (greater s) j
    exact ⟨p, by rwa [rank_sortedFrom] at h, rfl⟩
  · rintro ⟨p, hp, rfl⟩
    rwa [rank_sortedFrom]

end Cert.Proof.Spec

end
-- ==== Proof.RefFront.lean ====
/-
  The reference's input attention at an index: the scores, the mask of the four first, and the inputs of the cells.
-/
module

public import proofs.«01_k».proof.Proof.Gen.ReferenceIdeal.Read
public import proofs.«01_k».proof.Proof.Reals
public import proofs.«01_k».proof.Proof.TopK
public import Idealize.ShloMosaic.Lib.Pointwise
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Cert.ReferenceIdeal.Read
open Idealize.ShloMosaic Idealize.ShloMosaic.TcCoe Idealize.ShloMosaic.Tactic

variable (x0 : Vec Ideal S64x1x1024 .f32) (x1 x2 : Vec Ideal S64x8x512 .f32) (x3 : Vec Ideal S1024x256 .f32)
  (x4 : Vec Ideal S1024x2048 .f32) (x5 : Vec Ideal S8x512x256 .f32)

/-- Every element of the array is a real number. -/
def IsReal {s : Shape} (x : Vec Ideal s .f32) : Prop := ∀ i, ∃ r : ℝ, x i = (r : EReal)

/-- The score of unit `u` in row `b`. -/
def sc (b : Fin 64) (u : Fin 8) : EReal :=
  Spec.score (fun k => x0 (ix3 b 0 k)) (fun k => x1 (ix3 b u k)) (fun k j => x3 (ix2 k j)) (fun k j => x5 (ix3 u k j))

/-- The value of row `b`'s input. -/
def vl (b : Fin 64) (d : Fin 512) : EReal := Spec.value (fun k => x0 (ix3 b 0 k)) (fun k e => x4 (ix2 k e)) d

/-- The mask of unit `u` in row `b`. -/
def mk (b : Fin 64) (u : Fin 8) : EReal := Spec.mask (sc x0 x1 x3 x5 b) u

section Scores

variable (h0 : IsReal x0) (h1 : IsReal x1) (h3 : IsReal x3) (h4 : IsReal x4) (h5 : IsReal x5)

include h0 h1 h3 h5 in
theorem sc_real (b : Fin 64) (u : Fin 8) : ∃ r : ℝ, sc x0 x1 x3 x5 b u = (r : EReal) := by
  obtain ⟨X0, rfl⟩ := Spec.exists_real x0 h0
  obtain ⟨X1, rfl⟩ := Spec.exists_real x1 h1
  obtain ⟨X3, rfl⟩ := Spec.exists_real x3 h3
  obtain ⟨X5, rfl⟩ := Spec.exists_real x5 h5
  exact Spec.score_real _ _ _ _

include h0 h1 h3 h5 in
/-- The score against the input. -/
theorem v21_zero (b : Fin 64) (u : Fin 8) : val_main_v21 (F := Ideal) x0 x1 x3 x5 (ix3 b u 0) = sc x0 x1 x3 x5 b u := by
  obtain ⟨X0, rfl⟩ := Spec.exists_real x0 h0
  obtain ⟨X1, rfl⟩ := Spec.exists_real x1 h1
  obtain ⟨X3, rfl⟩ := Spec.exists_real x3 h3
  obtain ⟨X5, rfl⟩ := Spec.exists_real x5 h5
  refine Eq.trans ?_ (Spec.score_heads (fun k => X0 (ix3 b 0 k)) (fun k => X1 (ix3 b u k)) (fun k j => X3 (ix2 k j)) (fun k j => X5 (ix3 u k j)))
  rw [← Spec.bits_eight, ← Spec.bits_four]
  pointwise [val_main_v21, val_main_v20, val_main_v19, val_main_v18, val_main_v17, val_main_v16, val_main_v15, val_main_v14, val_main_v13, val_main_v7, val_main_v6, val_main_v5, val_main_v4, val_main_v2, val_main_v1, val_main_v0, val_main_cst, val_main_cst_0, val_main_cst_1, val_main_cst_2, val_main_cst_3, val_main_cst_4]
  rfl

/-- The score against the null input. -/
theorem v21_one (b : Fin 64) (u : Fin 8) : val_main_v21 (F := Ideal) x0 x1 x3 x5 (ix3 b u 1) = 0 := by
  have hz : ∀ y : ℝ, y ≠ 0 → Ideal.div 0 (y : EReal) = 0 := fun y hy => by rw [Ideal.div_coe hy, zero_mul]
  pointwise [val_main_v21, val_main_v20, val_main_v19, val_main_v18, val_main_v17, val_main_v16, val_main_v15, val_main_v14, val_main_v13, val_main_v7, val_main_v6, val_main_v5, val_main_v4, val_main_v2, val_main_v1, val_main_v0, val_main_cst, val_main_cst_0, val_main_cst_1, val_main_cst_2, val_main_cst_3, val_main_cst_4]
  rw [Spec.bits_eight, Spec.bits_four]
  simp [hz _ (by norm_num : (8 : ℝ) ≠ 0), hz _ (by norm_num : (4 : ℝ) ≠ 0)]

include h0 h4 in
/-- The input's value. -/
theorem v12_zero (b : Fin 64) (d : Fin 512) : val_main_v12 (F := Ideal) x0 x4 (ix3 b 0 d) = vl x0 x4 b d := by
  obtain ⟨X0, rfl⟩ := Spec.exists_real x0 h0
  obtain ⟨X4, rfl⟩ := Spec.exists_real x4 h4
  refine Eq.trans ?_ (Spec.value_heads (fun k => X0 (ix3 b 0 k)) (fun k j => X4 (ix2 k j)) d)
  rw [← Spec.bits_four]
  pointwise [val_main_v12, val_main_v11, val_main_v10, val_main_v9, val_main_v8, val_main_v3, val_main_v1, val_main_v0, val_main_cst, val_main_cst_0, val_main_cst_1, val_main_cst_2, val_main_cst_3, val_main_cst_4]

/-- The null input's value. -/
theorem v12_one (b : Fin 64) (d : Fin 512) : val_main_v12 (F := Ideal) x0 x4 (ix3 b 1 d) = 0 := by
  have hz : ∀ y : ℝ, y ≠ 0 → Ideal.div 0 (y : EReal) = 0 := fun y hy => by rw [Ideal.div_coe hy, zero_mul]
  pointwise [val_main_v12, val_main_v11, val_main_v10, val_main_v9, val_main_v8, val_main_v3, val_main_v1, val_main_v0, val_main_cst, val_main_cst_0, val_main_cst_1, val_main_cst_2, val_main_cst_3, val_main_cst_4]
  rw [Spec.bits_four]
  simp [hz _ (by norm_num : (4 : ℝ) ≠ 0)]

include h0 h1 h3 h5 in
/-- The weight of the input in the attention. -/
theorem v53_zero (b : Fin 64) (u : Fin 8) : val_main_v53 (F := Ideal) x0 x1 x3 x5 (ix3 b u 0) = Ideal.logistic (sc x0 x1 x3 x5 b u) := by
  have e0 := v21_zero x0 x1 x3 x5 h0 h1 h3 h5 b u
  have e1 := v21_one x0 x1 x3 x5 b u
  obtain ⟨r, hr⟩ := sc_real x0 x1 x3 x5 h0 h1 h3 h5 b u
  rw [hr] at e0 ⊢
  rw [← Spec.soft_two r]
  unfold val_main_v53 val_main_v52 val_main_v51 val_main_v50 val_main_v49 val_main_v48 val_main_v47 val_main_v46 val_main_v45 val_main_v44 val_main_v43
  revert e0 e1
  generalize val_main_v21 (F := Ideal) x0 x1 x3 x5 = s
  intro e0 e1
  pointwise [val_main_cst_9, val_main_cst_10, val_main_cst_11, val_main_cst_12]
  rw [Spec.bits_bot, Spec.fold_two, Fin.sum_univ_two]
  simp only [e0, e1]

/-! ## The mask -/

/-- Position `k` of the row through `(b, p)`. -/
theorem along_row (b : Fin 64) (p k : Fin 8) : (ix2 b p : S64x8.Idx).along 1 k = ix2 b k := by
  funext i
  unfold Shape.Idx.along
  match i with
  | ⟨0, h⟩ => exact Function.update_of_ne (fun h' => absurd (congrArg Fin.val h') (by simp)) _ _
  | ⟨1, _⟩ => exact Function.update_self _ _ _

/-- The order of the sort is the order of the numbers. -/
theorem gt_iff (x y : EReal) : (FloatOps.cmpfTotal (F := Ideal) (φ := .f32) .gt x y == 1#1) = decide (y < x) := by
  show (BitVec.ofBool (decide (y < x)) == 1#1) = decide (y < x)
  cases decide (y < x) <;> rfl

/-- Place `a` of row `b` of the indices of the four first. -/
theorem indices_at (b : Fin 64) (a : Fin 4) :
    val_main_indices (F := Ideal) x0 x1 x3 x5 (ix2 b a)
      = BitVec.ofNat 32 (sortedFrom (Spec.greater fun u => val_main_v21 (F := Ideal) x0 x1 x3 x5 (ix3 b u 0)) ⟨a.val, by omega⟩).val := by
  have e : ∀ u, val_main_v23 (F := Ideal) x0 x1 x3 x5 (ix2 b u) = val_main_v21 (F := Ideal) x0 x1 x3 x5 (ix3 b u 0) := by
    intro u
    unfold val_main_v23 val_main_v22
    generalize val_main_v21 (F := Ideal) x0 x1 x3 x5 = s
    pointwise
  rw [show (fun u => val_main_v21 (F := Ideal) x0 x1 x3 x5 (ix3 b u 0)) = fun u => val_main_v23 (F := Ideal) x0 x1 x3 x5 (ix2 b u) from
    funext fun u => (e u).symm]
  unfold val_main_indices
  generalize val_main_v23 (F := Ideal) x0 x1 x3 x5 = s
  unfold Host.topK Host.sort2
  change extractStridedSlice S64x4 (fun x => 0) (fun j : S64x8.Idx => iotaInDim S64x8 32 1 (j.along 1 (sortedFrom (fun k k' => FloatOps.cmpfTotal (F := Ideal) (φ := .f32) .gt (s (j.along 1 k)) (s (j.along 1 k')) == 1#1) (j 1)))) sliceFits_S64x8_S64x4 (ix2 b a) = _
  pointwise
  simp only [along_row, gt_iff]
  rfl

/-- Update `(b, a)` of the scatter lands at row `b`, at the unit at place `a`. -/
theorem v40_zero (b : Fin 64) (a : Fin 4) : (val_main_v40 (F := Ideal) x0 x1 x3 x5 (ix3 b a 0)).toInt = b.val := by
  unfold val_main_v40
  pointwise [val_main_v38, val_main_v37, val_main_v31, val_main_v30, val_main_v29, val_main_v28, val_main_v27, val_main_v26, val_main_v25, val_main_c, val_main_c_6]
  revert b; decide

theorem v40_one (b : Fin 64) (a : Fin 4) :
    (val_main_v40 (F := Ideal) x0 x1 x3 x5 (ix3 b a 1)).toInt
      = (sortedFrom (Spec.greater fun u => val_main_v21 (F := Ideal) x0 x1 x3 x5 (ix3 b u 0)) ⟨a.val, by omega⟩).val := by
  have e := indices_at x0 x1 x3 x5 b a
  unfold val_main_v40 val_main_v39 val_main_v36 val_main_v35 val_main_v33
  revert e
  generalize sortedFrom (Spec.greater fun u => val_main_v21 (F := Ideal) x0 x1 x3 x5 (ix3 b u 0)) ⟨a.val, by omega⟩ = p
  generalize val_main_indices (F := Ideal) x0 x1 x3 x5 = s
  intro e
  pointwise [val_main_v34, val_main_v32, val_main_c_7, val_main_c_8]
  rw [e]
  clear e
  revert p; decide

include h0 h1 h3 h5 in
/-- The mask is one at the units of rank below four. -/
theorem v42_at (b : Fin 64) (u : Fin 8) : val_main_v42 (F := Ideal) x0 x1 x3 x5 (ix2 b u) = mk x0 x1 x3 x5 b u := by
  have es : (fun u => val_main_v21 (F := Ideal) x0 x1 x3 x5 (ix3 b u 0)) = sc x0 x1 x3 x5 b := funext fun u => v21_zero x0 x1 x3 x5 h0 h1 h3 h5 b u
  have f0 := v40_zero x0 x1 x3 x5
  have f1 := v40_one x0 x1 x3 x5
  have lands : ∀ (r : Fin 64) (a : Fin 4), scatter_S64x8_S64x4x2_S64x4_n_01_01_2.resultIdx? (ValueIdx.ix2 r a) (val_main_v40 (F := Ideal) x0 x1 x3 x5) = some (ValueIdx.ix2 b u)
      ↔ (r = b ∧ sortedFrom (Spec.greater (sc x0 x1 x3 x5 b)) ⟨a.val, by omega⟩ = u) := by
    intro r a
    rw [Routing.scatter_lands2 scatter_S64x8_S64x4x2_S64x4_n_01_01_2 rfl rfl rfl]
    have g0 := f0 r a
    have g1 := f1 r a
    rw [← ix3_eq_valueIdx, ← ix3_eq_valueIdx, g0, g1]
    constructor
    · rintro ⟨hb, hu⟩
      obtain rfl : r = b := Fin.ext (by exact_mod_cast hb)
      rw [es] at hu
      exact ⟨rfl, Fin.ext (by exact_mod_cast hu)⟩
    · rintro ⟨rfl, hu⟩
      rw [es, hu]
      exact ⟨rfl, rfl⟩
  unfold mk Spec.mask val_main_v42
  by_cases hr : Spec.rank (sc x0 x1 x3 x5 b) u < 4
  · rw [if_pos hr]
    obtain ⟨p, hp, hpu⟩ := (Spec.rank_lt_iff _ _ _).1 hr
    refine Routing.scatter_set_hit _ _ _ _ _ 1 (fun k _ => ?_) (ValueIdx.ix2 b (⟨p.val, hp⟩ : Fin 4)) ((lands b ⟨p.val, hp⟩).2 ⟨rfl, hpu⟩)
    pointwise [val_main_v41, val_main_cst_9]
  · rw [if_neg hr]
    refine (Routing.scatter_set_miss _ _ _ _ _ (fun k hk => hr ?_)).trans ?_
    · rw [eq_ix2 k] at hk
      exact (Spec.rank_lt_iff _ _ _).2 ⟨⟨(k 1).val, lt_trans (k 1).isLt (by decide)⟩, (k 1).isLt, ((lands (k 0) (k 1)).1 hk).2⟩
    · pointwise [val_main_v24, val_main_cst_5]

include h0 h1 h3 h4 h5 in
/-- The inputs of the cells: the gated value. -/
theorem v57_at (b : Fin 64) (u : Fin 8) (d : Fin 512) :
    val_main_v57 (F := Ideal) x0 x1 x3 x4 x5 (ix3 b u d) = (Ideal.logistic (sc x0 x1 x3 x5 b u) * mk x0 x1 x3 x5 b u) * vl x0 x4 b d := by
  have e1 := v53_zero x0 x1 x3 x5 h0 h1 h3 h5 b u
  have e2 := v12_zero x0 x4 h0 h4 b d
  have e3 := v12_one x0 x4 b d
  have e4 := v42_at x0 x1 x3 x5 h0 h1 h3 h5 b u
  unfold val_main_v57 val_main_v56 val_main_v55 val_main_v54
  revert e1 e2 e3 e4
  generalize val_main_v53 (F := Ideal) x0 x1 x3 x5 = s
  generalize val_main_v12 (F := Ideal) x0 x4 = t
  generalize val_main_v42 (F := Ideal) x0 x1 x3 x5 = w
  intro e1 e2 e3 e4
  pointwise
  rw [Fin.sum_univ_two, e1, e2, e3, e4, mul_zero, add_zero]
  exact mul_right_comm _ _ _

end Scores

end Cert.Proof.Ref

end
-- ==== Proof.RefBack.lean ====
/-
  The reference's cells and communication at an index, its mask and the cells' inputs given.
-/
module

public import proofs.«01_k».proof.Proof.RefFront

@[expose] public section

set_option maxRecDepth 16384

noncomputable section

namespace Cert.Proof.Ref

open Cert.ReferenceIdeal Cert.ReferenceIdeal.Gen Cert.ReferenceIdeal.Read
open Idealize.ShloMosaic Idealize.ShloMosaic.TcCoe Idealize.ShloMosaic.Tactic

variable (x0 : Vec Ideal S64x1x1024 .f32) (x1 x2 : Vec Ideal S64x8x512 .f32) (x3 : Vec Ideal S1024x256 .f32)
  (x4 : Vec Ideal S1024x2048 .f32) (x5 : Vec Ideal S8x512x256 .f32) (x6 x7 : Vec Ideal S8x512x2048 .f32)
  (x8 x9 : Vec Ideal S8x512x256 .f32) (x10 : Vec Ideal S8x512x2048 .f32) (x11 : Vec Ideal S8x2048x512 .f32)

/-- The preactivation of unit `u` in row `b`, the inputs of the cells at `g`. -/
def pr (g : Fin 64 → Fin 8 → Fin 512 → EReal) (b : Fin 64) (u : Fin 8) : Fin 2048 → EReal :=
  Spec.pre (g b u) (fun k => x1 (ix3 b u k)) (fun k n => x6 (ix3 u k n)) (fun k n => x7 (ix3 u k n))

/-- The new cell state of unit `u` in row `b`. -/
def cn (g : Fin 64 → Fin 8 → Fin 512 → EReal) (b : Fin 64) (u : Fin 8) : Fin 512 → EReal :=
  Spec.cNew (pr x1 x6 x7 g b u) fun k => x2 (ix3 b u k)

/-- The new hidden state of unit `u` in row `b`, before the communication. -/
def hn (g : Fin 64 → Fin 8 → Fin 512 → EReal) (b : Fin 64) (u : Fin 8) : Fin 512 → EReal :=
  Spec.hNew (pr x1 x6 x7 g b u) fun k => x2 (ix3 b u k)

section Cells

variable (g : Fin 64 → Fin 8 → Fin 512 → EReal) (w : Fin 64 → Fin 8 → EReal)
  (hg : ∀ b u d, val_main_v57 (F := Ideal) x0 x1 x3 x4 x5 (ix3 b u d) = g b u d)
  (hw : ∀ b u, val_main_v42 (F := Ideal) x0 x1 x3 x5 (ix2 b u) = w b u)
  (hw01 : ∀ b u, w b u = 0 ∨ w b u = 1)

include hg in
theorem v66_at (b : Fin 64) (u : Fin 8) (n : Fin 2048) : val_main_v66 (F := Ideal) x0 x1 x3 x4 x5 x6 x7 (ix3 b u n) = pr x1 x6 x7 g b u n := by
  unfold pr Spec.pre val_main_v66 val_main_v63 val_main_v62
  revert hg
  generalize val_main_v57 (F := Ideal) x0 x1 x3 x4 x5 = s
  intro hg
  pointwise [val_main_v65, val_main_v64]
  simp only [hg]
  exact congrArg₂ (· + ·) (Finset.sum_congr rfl fun k _ => mul_comm _ _) (Finset.sum_congr rfl fun k _ => mul_comm _ _)

include hg in
theorem v81_at (b : Fin 64) (u : Fin 8) (d : Fin 512) : val_main_v81 (F := Ideal) x0 x1 x2 x3 x4 x5 x6 x7 (ix3 b u d) = cn x1 x2 x6 x7 g b u d := by
  have h := v66_at x0 x1 x3 x4 x5 x6 x7 g hg
  unfold cn Spec.cNew val_main_v81 val_main_v80 val_main_v79 val_main_v77 val_main_v76 val_main_v75 val_main_v74 val_main_v73 val_main_v71 val_main_v69 val_main_v68 val_main_v67
  revert h
  generalize val_main_v66 (F := Ideal) x0 x1 x3 x4 x5 x6 x7 = s
  intro h
  pointwise [val_main_v70, val_main_v72, val_main_cst_15, val_main_cst_16]
  simp only [h]
  rfl

include hg in
theorem v83_at (b : Fin 64) (u : Fin 8) (d : Fin 512) : val_main_v83 (F := Ideal) x0 x1 x2 x3 x4 x5 x6 x7 (ix3 b u d) = hn x1 x2 x6 x7 g b u d := by
  have h := v66_at x0 x1 x3 x4 x5 x6 x7 g hg
  have h' := v81_at x0 x1 x2 x3 x4 x5 x6 x7 g hg
  unfold hn Spec.hNew val_main_v83 val_main_v82 val_main_v78 val_main_v73 val_main_v71 val_main_v69 val_main_v68 val_main_v67
  revert h h'
  generalize val_main_v66 (F := Ideal) x0 x1 x3 x4 x5 x6 x7 = s
  generalize val_main_v81 (F := Ideal) x0 x1 x2 x3 x4 x5 x6 x7 = t
  intro h h'
  pointwise [val_main_v70, val_main_v72, val_main_cst_15, val_main_cst_16]
  simp only [h, h']
  rfl

include hg hw in
/-- The second result: the new cell state, the old one where the unit is not selected. -/
theorem v141_at (b : Fin 64) (u : Fin 8) (d : Fin 512) :
    val_main_v141 (F := Ideal) x0 x1 x2 x3 x4 x5 x6 x7 (ix3 b u d)
      = Spec.cOut (w b u) (cn x1 x2 x6 x7 g b u) (fun k => x2 (ix3 b u k)) d := by
  have h' := v81_at x0 x1 x2 x3 x4 x5 x6 x7 g hg
  unfold Spec.cOut val_main_v141 val_main_v140 val_main_v139 val_main_v138 val_main_v136 val_main_v135 val_main_v84
  revert h' hw
  generalize val_main_v42 (F := Ideal) x0 x1 x3 x5 = s
  generalize val_main_v81 (F := Ideal) x0 x1 x2 x3 x4 x5 x6 x7 = t
  intro hw h'
  pointwise [val_main_v137, val_main_cst_23, val_main_v61, val_main_v60, val_main_cst_14]
  simp only [h', hw]
  try rw [mul_one]

include hg hw hw01 in
/-- The hidden state before the communication: the gradient's blocking leaves the value. -/
theorem v91_at (b : Fin 64) (u : Fin 8) (d : Fin 512) : val_main_v91 (F := Ideal) x0 x1 x2 x3 x4 x5 x6 x7 (ix3 b u d) = hn x1 x2 x6 x7 g b u d := by
  have h' := v83_at x0 x1 x2 x3 x4 x5 x6 x7 g hg
  unfold val_main_v91 val_main_v90 val_main_v89 val_main_v88 val_main_v86 val_main_v85 val_main_v84
  revert h' hw
  generalize val_main_v42 (F := Ideal) x0 x1 x3 x5 = s
  generalize val_main_v83 (F := Ideal) x0 x1 x2 x3 x4 x5 x6 x7 = t
  intro hw h'
  pointwise [val_main_v87, val_main_cst_17]
  simp only [h', hw]
  rcases hw01 b u with h | h <;> rw [h]
  · rw [zero_mul, zero_add, sub_zero, one_mul]
  · rw [one_mul, show (1 : EReal) - 1 = 0 from by rw [← EReal.coe_one, ← EReal.coe_sub, sub_self, EReal.coe_zero], zero_mul, add_zero]

/-- The keys of the units of row `b`. -/
def ky (b : Fin 64) (u : Fin 8) : Fin 256 → EReal := Spec.row (hn x1 x2 x6 x7 g b u) fun k j => x8 (ix3 u k j)

/-- The values of the units of row `b`. -/
def va (b : Fin 64) (u : Fin 8) : Fin 2048 → EReal := Spec.row (hn x1 x2 x6 x7 g b u) fun k j => x10 (ix3 u k j)

include hg hw01 in
/-- The scaled products of a unit's query with the units' keys. -/
theorem v107_at (hw : ∀ b u, val_main_v42 (F := Ideal) x0 x1 x3 x5 (ix2 b u) = w b u) (b : Fin 64) (n : Fin 4) (u j : Fin 8) :
    val_main_v107 (F := Ideal) x0 x1 x2 x3 x4 x5 x6 x7 x8 x9 (ix4 b n u j) = Spec.logit (ky x1 x2 x6 x7 x9 g b u) (ky x1 x2 x6 x7 x8 g b) n j := by
  have h := v91_at x0 x1 x2 x3 x4 x5 x6 x7 g w hg hw hw01
  unfold Spec.logit ky Spec.row val_main_v107 val_main_v105 val_main_v104 val_main_v99 val_main_v98 val_main_v97 val_main_v96 val_main_v95 val_main_v94 val_main_v93 val_main_v92
  revert h
  generalize val_main_v91 (F := Ideal) x0 x1 x2 x3 x4 x5 x6 x7 = s
  intro h
  pointwise [val_main_v106, val_main_cst_18]
  rw [Spec.bits_eight, Ideal.div_coe (by norm_num : (8 : ℝ) ≠ 0)]
  refine congrArg (· * _) (Finset.sum_congr rfl fun i _ => ?_)
  simp only [h]
  exact congrArg₂ (· * ·) (Finset.sum_congr rfl fun k _ => mul_comm _ _) (Finset.sum_congr rfl fun k _ => mul_comm _ _)

/-- The softmax over the units. -/
theorem v118_at (b : Fin 64) (n : Fin 4) (u j : Fin 8) :
    val_main_v118 (F := Ideal) x0 x1 x2 x3 x4 x5 x6 x7 x8 x9 (ix4 b n u j)
      = Spec.soft (fun i => val_main_v107 (F := Ideal) x0 x1 x2 x3 x4 x5 x6 x7 x8 x9 (ix4 b n u i)) j := by
  unfold val_main_v118 val_main_v117 val_main_v116 val_main_v115 val_main_v114 val_main_v113 val_main_v112 val_main_v111 val_main_v110 val_main_v108 Spec.soft
  generalize val_main_v107 (F := Ideal) x0 x1 x2 x3 x4 x5 x6 x7 x8 x9 = s
  pointwise [val_main_v109, val_main_cst_19, val_main_cst_20, val_main_cst_21]
  rw [Spec.bits_bot, max_eq_right bot_le]

include hg hw hw01 in
/-- What a selected unit reads from the others, all heads side by side; a unit not selected reads zero. -/
theorem v124_at (b : Fin 64) (u : Fin 8) (k : Fin 2048) :
    val_main_v124 (F := Ideal) x0 x1 x2 x3 x4 x5 x6 x7 x8 x9 x10 (ix3 b u k)
      = ∑ j, Spec.soft (Spec.logit (ky x1 x2 x6 x7 x9 g b u) (ky x1 x2 x6 x7 x8 g b) ⟨k.val / 512, by omega⟩) j * w b u * va x1 x2 x6 x7 x10 g b j k := by
  have h := v91_at x0 x1 x2 x3 x4 x5 x6 x7 g w hg hw hw01
  have h1 := v118_at x0 x1 x2 x3 x4 x5 x6 x7 x8 x9
  have h2 := v107_at x0 x1 x2 x3 x4 x5 x6 x7 x8 x9 g w hg hw01 hw
  simp only [h2] at h1
  unfold va Spec.row val_main_v124 val_main_v123 val_main_v122 val_main_v121 val_main_v120 val_main_v119 val_main_v103 val_main_v102 val_main_v101 val_main_v100
  revert h h1 hw
  generalize val_main_v91 (F := Ideal) x0 x1 x2 x3 x4 x5 x6 x7 = s
  generalize val_main_v118 (F := Ideal) x0 x1 x2 x3 x4 x5 x6 x7 x8 x9 = t
  generalize val_main_v42 (F := Ideal) x0 x1 x3 x5 = v
  intro hw h h1
  pointwise
  simp only [h, h1, hw]
  exact Finset.sum_congr rfl fun j _ => congrArg (_ * ·) (Finset.sum_congr rfl fun k _ => mul_comm _ _)

/-- One minus one. -/
theorem one_sub_one : (1 : EReal) - 1 = 0 := by rw [← EReal.coe_one, ← EReal.coe_sub, sub_self, EReal.coe_zero]

include hg hw hw01 in
/-- The first result: the new hidden state, the old one where the unit is not selected. -/
theorem v134_at (b : Fin 64) (u : Fin 8) (d : Fin 512) :
    val_main_v134 (F := Ideal) x0 x1 x2 x3 x4 x5 x6 x7 x8 x9 x10 x11 (ix3 b u d)
      = Spec.hOut (w b u) (hn x1 x2 x6 x7 g b u) (fun k => x1 (ix3 b u k))
          (Spec.ctx (ky x1 x2 x6 x7 x9 g b u) (ky x1 x2 x6 x7 x8 g b) (va x1 x2 x6 x7 x10 g b)) (fun k e => x11 (ix3 u k e)) d := by
  have h := v91_at x0 x1 x2 x3 x4 x5 x6 x7 g w hg hw hw01
  have h1 := v124_at x0 x1 x2 x3 x4 x5 x6 x7 x8 x9 x10 g w hg hw hw01
  unfold Spec.hOut Spec.row Spec.ctx val_main_v134 val_main_v133 val_main_v132 val_main_v131 val_main_v129 val_main_v128 val_main_v127 val_main_v126 val_main_v125 val_main_v84
  revert h h1 hw
  generalize val_main_v91 (F := Ideal) x0 x1 x2 x3 x4 x5 x6 x7 = s
  generalize val_main_v124 (F := Ideal) x0 x1 x2 x3 x4 x5 x6 x7 x8 x9 x10 = t
  generalize val_main_v42 (F := Ideal) x0 x1 x3 x5 = v
  intro hw h h1
  pointwise [val_main_v130, val_main_cst_22, val_main_v59, val_main_v58, val_main_cst_13]
  simp only [h, h1, hw, mul_one]
  rcases hw01 b u with e | e <;> rw [e]
  · simp only [zero_mul, zero_add, sub_zero, one_mul, add_zero]
  · simp only [one_mul, one_sub_one, zero_mul, add_zero, mul_one]
    exact congrArg (_ + ·) (Finset.sum_congr rfl fun k _ => mul_comm _ _)

end Cells

end Cert.Proof.Ref

end
-- ==== Proof.Units.lean ====
/-
  What the second region leaves, unit by unit, in the words of the reference: the cell states and the hidden states of
  each unit, given what the region finds in its arrays.
-/
module

public import proofs.«01_k».proof.Proof.Blocks
public import proofs.«01_k».proof.Proof.RefBack

@[expose] public section

set_option maxRecDepth 16384

noncomputable section

namespace Cert.Proof.KernelIdeal.Region1

open Cert.KernelIdeal Cert.KernelIdeal.Gen Cert.Proof.Slabs
open Idealize.ShloMosaic Idealize.ShloMosaic.TcCoe Idealize.ShloMosaic.Tactic

/-- A slab at an index. -/
theorem slab_at {α : Type} {n : ℕ} (X : (⟨3, ![8, 64, n]⟩ : Shape).Idx → α) (u : Fin 8) (z : Fin 1) (b : Fin 64) (e : Fin n) :
    slab X u.val (ix3 z b e) = X (ix3 u b e) := by
  unfold slab
  have hu : (⟨u.val % 8, Nat.mod_lt _ (by decide)⟩ : Fin 8) = u := Fin.ext (by have := u.isLt; simp only; omega)
  rw [hu]; rfl

section Units

variable (V : Dev nD → Valuation τ sig (Elt Ideal)) (c : Dev nD)
  (X1 X2 : Vec Ideal S64x8x512 .f32) (X6 X7 : Vec Ideal S8x512x2048 .f32) (X8 X9 : Vec Ideal S8x512x256 .f32)
  (X10 : Vec Ideal S8x512x2048 .f32) (X11 : Vec Ideal S8x2048x512 .f32)
  (g : Fin 64 → Fin 8 → Fin 512 → EReal) (w al : Fin 64 → Fin 8 → EReal) (vv : Fin 64 → Fin 512 → EReal)
  (h1 : ∀ (b : Fin 64) (u : Fin 8) (k : Fin 512), V c main_v1 (ix2 b (Spec.side u k)) = X1 (ix3 b u k))
  (h2 : ∀ (b : Fin 64) (u : Fin 8) (k : Fin 512), V c main_v2 (ix2 b (Spec.side u k)) = X2 (ix3 b u k))
  (hg : ∀ (b : Fin 64) (u : Fin 8) (k : Fin 512), al b u * vv b k = g b u k)
  (ha : ∀ (b : Fin 64) (u : Fin 8), V c main_v3_1 (ix3 u b 0) = al b u) (hv : ∀ (b : Fin 64) (k : Fin 512), V c main_v3_0 (ix2 b k) = vv b k)
  (hw : ∀ (b : Fin 64) (u : Fin 8), V c main_v3_2 (ix3 u b 0) = w b u)
  (e6 : ∀ i, V c main_arg6 i = X6 i) (e7 : ∀ i, V c main_arg7 i = X7 i) (e8 : ∀ i, V c main_arg8 i = X8 i)
  (e9 : ∀ i, V c main_arg9 i = X9 i) (e10 : ∀ i, V c main_arg10 i = X10 i) (e11 : ∀ i, V c main_arg11 i = X11 i)

/-- A unit's columns of the input-to-hidden weights. -/
abbrev wI (u : Fin 8) : Fin 512 → Fin 2048 → EReal := fun k n => X6 (ix3 u k n)

include e6 in
theorem w6 (u : Fin 8) (k : Fin 512) (n : Fin 1024) : iblk V c 5 (pt u) (ix3 0 k n) = wI X6 u k (Spec.lo n) :=
  (blk5 V c u k n).trans (e6 _)

include e6 in
theorem w6' (u : Fin 8) (k : Fin 512) (n : Fin 1024) : iblk V c 6 (pt u) (ix3 0 k n) = wI X6 u k (Spec.hi n) :=
  (blk6 V c u k n).trans (e6 _)

include e7 in
theorem w7 (u : Fin 8) (k : Fin 512) (n : Fin 1024) : iblk V c 7 (pt u) (ix3 0 k n) = wI X7 u k (Spec.lo n) :=
  (blk7 V c u k n).trans (e7 _)

include e7 in
theorem w7' (u : Fin 8) (k : Fin 512) (n : Fin 1024) : iblk V c 8 (pt u) (ix3 0 k n) = wI X7 u k (Spec.hi n) :=
  (blk8 V c u k n).trans (e7 _)

include hw in
/-- The mask as the region finds it. -/
theorem mask_at (t : Fin cfg1.N) (b : Fin 64) (u : Fin 8) : slab (iblk V c 4 t) u.val (ix3 0 b 0) = w b u := by
  rw [slab_at, blk4]; exact hw b u

include h1 hg ha hv in
/-- The preactivations of a unit. -/
theorem pre_at (u : Fin 8) (b : Fin 64) :
    preRow (iblk V c 0 (pt u)) (iblk V c 2 (pt u)) (slab (iblk V c 3 (pt u)) u.val) (wI X6 u) (wI X7 u) b = Ref.pr X1 X6 X7 g b u := by
  unfold preRow Ref.pr
  have ea : (fun k => (fun x y : EReal => x * y) (slab (iblk V c 3 (pt u)) u.val (ix3 0 b 0)) (iblk V c 2 (pt u) (ix2 b k))) = g b u :=
    funext fun k => by
      rw [slab_at, blk3, blk2, ha, hv]; exact hg b u k
  have eh : (fun k => iblk V c 0 (pt u) (ix2 b k) : Fin 512 → EReal) = fun k => X1 (ix3 b u k) :=
    funext fun k => (blk0 V c u b k).trans (h1 b u k)
  exact congrArg₂ (fun p q => Spec.pre p q (wI X6 u) (wI X7 u)) ea eh

include h2 in
/-- The old cell states of a unit. -/
theorem old_c (u : Fin 8) (b : Fin 64) : (fun k => iblk V c 1 (pt u) (ix2 b k) : Fin 512 → EReal) = fun k => X2 (ix3 b u k) :=
  funext fun k => (blk1 V c u b k).trans (h2 b u k)

include h1 h2 hg ha hv hw e6 e7 in
/-- The cell states the region leaves. -/
theorem csUnit_at (u : Fin 8) (b : Fin 64) (d : Fin 512) :
    csAt V c (pt u) (ix2 b d) = Spec.cOut (w b u) (Ref.cn X1 X2 X6 X7 g b u) (fun k => X2 (ix3 b u k)) d := by
  refine (csOut_at _ _ _ _ _ _ _ _ _ (wI X6 u) (wI X7 u) (w6 V c X6 e6 u) (w6' V c X6 e6 u) (w7 V c X7 e7 u) (w7' V c X7 e7 u) b d).trans ?_
  rw [show (pt u).val = u.val from rfl, mask_at V c w hw, pre_at V c X1 X6 X7 g al vv h1 hg ha hv u b, old_c V c X2 h2 u b]
  rfl

include h1 h2 hg ha hv hw e6 e7 in
/-- The slab of mixed old and new hidden states. -/
theorem hbUnit_at (u : Fin 8) (b : Fin 64) (d : Fin 512) :
    hbAt V c (pt u) (ix3 0 b d) = w b u * Ref.hn X1 X2 X6 X7 g b u d + (1 - w b u) * X1 (ix3 b u d) := by
  refine (hbSlab_at _ _ _ _ _ _ _ _ _ (wI X6 u) (wI X7 u) (w6 V c X6 e6 u) (w6' V c X6 e6 u) (w7 V c X7 e7 u) (w7' V c X7 e7 u) 0 b d).trans ?_
  rw [show (pt u).val = u.val from rfl, mask_at V c w hw, pre_at V c X1 X6 X7 g al vv h1 hg ha hv u b, old_c V c X2 h2 u b]
  exact congrArg (fun t : EReal => _ + (1 - w b u) * t) ((blk0 V c u b d).trans (h1 b u d))

include h1 h2 hg ha hv e6 e7 e8 in
/-- The slab of keys. -/
theorem keyUnit_at (u : Fin 8) (b : Fin 64) (e : Fin 256) : keyAt V c (pt u) (ix3 0 b e) = Ref.ky X1 X2 X6 X7 X8 g b u e := by
  refine (keySlab_at _ _ _ _ _ _ _ _ _ (wI X6 u) (wI X7 u) (w6 V c X6 e6 u) (w6' V c X6 e6 u) (w7 V c X7 e7 u) (w7' V c X7 e7 u) _ 0 b e).trans ?_
  rw [show (pt u).val = u.val from rfl, pre_at V c X1 X6 X7 g al vv h1 hg ha hv u b, old_c V c X2 h2 u b]
  exact Finset.sum_congr rfl fun k _ => congrArg (fun t : EReal => _ * t) ((blk9 V c u k e).trans (e8 _))

include h1 h2 hg ha hv e6 e7 e9 in
/-- The slab of queries. -/
theorem qUnit_at (u : Fin 8) (b : Fin 64) (e : Fin 256) : qAt V c (pt u) (ix3 0 b e) = Ref.ky X1 X2 X6 X7 X9 g b u e := by
  refine (qSlab_at _ _ _ _ _ _ _ _ _ (wI X6 u) (wI X7 u) (w6 V c X6 e6 u) (w6' V c X6 e6 u) (w7 V c X7 e7 u) (w7' V c X7 e7 u) _ 0 b e).trans ?_
  rw [show (pt u).val = u.val from rfl, pre_at V c X1 X6 X7 g al vv h1 hg ha hv u b, old_c V c X2 h2 u b]
  exact Finset.sum_congr rfl fun k _ => congrArg (fun t : EReal => _ * t) ((blk10 V c u k e).trans (e9 _))

include h1 h2 hg ha hv e6 e7 e10 in
/-- The slabs of values. -/
theorem valUnit_at (u : Fin 8) (b : Fin 64) (e : Fin 2048) : valAll V c (ix3 u b e) = Ref.va X1 X2 X6 X7 X10 g b u e := by
  have key : ∀ (h : e.val < 1024), valAtA V c (pt u) (ix3 0 b ⟨e.val, h⟩) = Ref.va X1 X2 X6 X7 X10 g b u e := fun h => by
    refine (valSlabA_at _ _ _ _ _ _ _ _ _ (wI X6 u) (wI X7 u) (w6 V c X6 e6 u) (w6' V c X6 e6 u) (w7 V c X7 e7 u) (w7' V c X7 e7 u) _ 0 b ⟨e.val, h⟩).trans ?_
    rw [show (pt u).val = u.val from rfl, pre_at V c X1 X6 X7 g al vv h1 hg ha hv u b, old_c V c X2 h2 u b]
    exact Finset.sum_congr rfl fun k _ => congrArg (fun t : EReal => _ * t) ((blk11 V c u k ⟨e.val, h⟩).trans (e10 _))
  have key' : ∀ (h : e.val - 1024 < 1024), 1024 ≤ e.val → valAtB V c (pt u) (ix3 0 b ⟨e.val - 1024, h⟩) = Ref.va X1 X2 X6 X7 X10 g b u e := fun h hle => by
    refine (valSlabB_at _ _ _ _ _ _ _ _ _ (wI X6 u) (wI X7 u) (w6 V c X6 e6 u) (w6' V c X6 e6 u) (w7 V c X7 e7 u) (w7' V c X7 e7 u) _ 0 b ⟨e.val - 1024, h⟩).trans ?_
    rw [show (pt u).val = u.val from rfl, pre_at V c X1 X6 X7 g al vv h1 hg ha hv u b, old_c V c X2 h2 u b]
    have ee : (⟨1024 + (e.val - 1024), by omega⟩ : Fin 2048) = e := Fin.ext (by simp only; omega)
    exact Finset.sum_congr rfl fun k _ => congrArg (fun t : EReal => _ * t) (((blk12 V c u k ⟨e.val - 1024, h⟩).trans (e10 _)).trans (by rw [ee]))
  unfold valAll
  by_cases h : e.val < 1024
  · exact (dif_pos h).trans (key h)
  · exact (dif_neg h).trans (key' (by omega) (by omega))

include h1 h2 hg ha hv hw e6 e7 e8 e9 e10 e11 in
/-- The hidden states the region leaves. -/
theorem hsUnit_at (u : Fin 8) (b : Fin 64) (d : Fin 512) :
    hsAt V c (pt8 u) (ix2 b d) = Spec.hOut (w b u) (Ref.hn X1 X2 X6 X7 g b u) (fun k => X1 (ix3 b u k))
      (Spec.ctx (Ref.ky X1 X2 X6 X7 X9 g b u) (Ref.ky X1 X2 X6 X7 X8 g b) (Ref.va X1 X2 X6 X7 X10 g b)) (fun k e => X11 (ix3 u k e)) d := by
  have e8' : (pt8 u).val - 8 = u.val := by show 8 + u.val - 8 = u.val; omega
  unfold hsAt
  rw [e8']
  refine (hsOut_at _ _ _ _ _ _ _ (fun k e => X11 (ix3 u k e)) (fun k d => (blk13 V c u k d).trans (e11 _)) (fun k d => (blk14 V c u k d).trans (e11 _)) b d).trans ?_
  have eq : (fun e => slab (qAll V c) u.val (ix3 0 b e) : Fin 256 → EReal) = Ref.ky X1 X2 X6 X7 X9 g b u :=
    funext fun e => by rw [slab_at]; exact qUnit_at V c X1 X2 X6 X7 X9 g al vv h1 h2 hg ha hv e6 e7 e9 u b e
  have ek : (fun j e => keyAll V c (ix3 j b e) : Fin 8 → Fin 256 → EReal) = Ref.ky X1 X2 X6 X7 X8 g b :=
    funext fun j => funext fun e => keyUnit_at V c X1 X2 X6 X7 X8 g al vv h1 h2 hg ha hv e6 e7 e8 j b e
  have ev : (fun j e => valAll V c (ix3 j b e) : Fin 8 → Fin 2048 → EReal) = Ref.va X1 X2 X6 X7 X10 g b :=
    funext fun j => funext fun e => valUnit_at V c X1 X2 X6 X7 X10 g al vv h1 h2 hg ha hv e6 e7 e10 j b e
  rw [eq, ek, ev, mask_at V c w hw, slab_at]
  exact congrArg (· + _) (hbUnit_at V c X1 X2 X6 X7 g w al vv h1 h2 hg ha hv hw e6 e7 u b d)

end Units

end Cert.Proof.KernelIdeal.Region1

end
-- ==== Proof.Results.lean ====
/-
  The two results of the idealized kernel after its run, at an index, in the words of the reference.
-/
module

public import proofs.«01_k».proof.Proof.Units
public import proofs.«01_k».proof.Proof.RefFront

@[expose] public section

set_option maxRecDepth 16384

noncomputable section

namespace Cert.Proof.KernelIdeal.Region0

open Cert.KernelIdeal Cert.KernelIdeal.Gen
open Idealize.ShloMosaic Idealize.ShloMosaic.TcCoe Idealize.ShloMosaic.Tactic

/-! ## The first region's blocks and output arrays: every block is its whole array -/

variable {F : FTy → Type} [FloatOps F] (V : Dev nD → Valuation τ sig (Elt F)) (c : Dev nD)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0, 0] := by decide +kernel

theorem blk0 (t : Fin cfg0.N) : iblk V c 0 t = V c main_v0 := by
  funext y
  refine congrArg (V c main_v0) (funext fun a => Fin.ext ?_)
  blk_simp [idx0]
  fin_cases a <;> simp

theorem blk1 (t : Fin cfg0.N) : iblk V c 1 t = V c main_v1 := by
  funext y
  refine congrArg (V c main_v1) (funext fun a => Fin.ext ?_)
  blk_simp [idx1]
  fin_cases a <;> simp

theorem blk2 (t : Fin cfg0.N) : iblk V c 2 t = V c main_arg3 := by
  funext y
  refine congrArg (V c main_arg3) (funext fun a => Fin.ext ?_)
  blk_simp [idx2]
  fin_cases a <;> simp

theorem blk3 (t : Fin cfg0.N) : iblk V c 3 t = V c main_arg4 := by
  funext y
  refine congrArg (V c main_arg4) (funext fun a => Fin.ext ?_)
  blk_simp [idx3]
  fin_cases a <;> simp

theorem blk4 (t : Fin cfg0.N) : iblk V c 4 t = V c main_arg5 := by
  funext y
  refine congrArg (V c main_arg5) (funext fun a => Fin.ext ?_)
  blk_simp [idx4]
  fin_cases a <;> simp

/-- The value array after the run. -/
theorem arr5 : (dat V c).arrAt 5 cfg0.N = out5 (V c main_v0) (V c main_v1) (V c main_arg3) (V c main_arg4) (V c main_arg5) := by
  refine (dat V c).arrAt_eq_of_covers 5 _ (by decide +kernel) fun t hf y => ?_
  blk_simp
  rw [after5, blk0, blk1, blk2, blk3, blk4]
  refine congrArg (out5 (V c main_v0) (V c main_v1) (V c main_arg3) (V c main_arg4) (V c main_arg5)) (funext fun a => Fin.ext ?_)
  blk_simp [idx5]
  fin_cases a <;> simp

/-- The gate array after the run. -/
theorem arr6 : (dat V c).arrAt 6 cfg0.N = out6 (V c main_v0) (V c main_v1) (V c main_arg3) (V c main_arg4) (V c main_arg5) := by
  refine (dat V c).arrAt_eq_of_covers 6 _ (by decide +kernel) fun t hf y => ?_
  blk_simp
  rw [after6, blk0, blk1, blk2, blk3, blk4]
  refine congrArg (out6 (V c main_v0) (V c main_v1) (V c main_arg3) (V c main_arg4) (V c main_arg5)) (funext fun a => Fin.ext ?_)
  blk_simp [idx6]
  fin_cases a <;> simp

/-- The mask array after the run. -/
theorem arr7 : (dat V c).arrAt 7 cfg0.N = out7 (V c main_v0) (V c main_v1) (V c main_arg3) (V c main_arg4) (V c main_arg5) := by
  refine (dat V c).arrAt_eq_of_covers 7 _ (by decide +kernel) fun t hf y => ?_
  blk_simp
  rw [after7, blk0, blk1, blk2, blk3, blk4]
  refine congrArg (out7 (V c main_v0) (V c main_v1) (V c main_arg3) (V c main_arg4) (V c main_arg5)) (funext fun a => Fin.ext ?_)
  blk_simp [idx7]
  fin_cases a <;> simp

end Cert.Proof.KernelIdeal.Region0

namespace Cert.Proof.KernelIdeal.Run

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- An argument as the program finds it. -/
abbrev arg (r : Ref sig .tc) : Buf (Elt Ideal) ((c : Thread nD τ).loc r) := m ((c : Thread nD τ).loc r)

theorem V1_v0 : V1 m c main_v0 = shapeCast S64x1024 (arg m c main_arg0) shapeCasts_S64x1x1024_S64x1024 := by
  unfold_abbrev_sides
  after_results
  rfl

theorem V1_v1 : V1 m c main_v1 = shapeCast S64x4096 (arg m c main_arg1) shapeCasts_S64x8x512_S64x4096 := by
  unfold_abbrev_sides
  after_results
  rfl

theorem V1_v2 : V1 m c main_v2 = shapeCast S64x4096 (arg m c main_arg2) shapeCasts_S64x8x512_S64x4096 := by
  unfold_abbrev_sides
  after_results
  rfl

theorem V4_v5 : V4 m (outs m) c main_v5 = shapeCast S64x8x512 (W3 m c main_v4_1) shapeCasts_S64x4096_S64x8x512 := by
  rw [← V3_eq]
  unfold_abbrev_sides
  after_results
  rfl

theorem V4_v6 : V4 m (outs m) c main_v6 = shapeCast S64x8x512 (W3 m c main_v4_0) shapeCasts_S64x4096_S64x8x512 := by
  rw [← V3_eq]
  unfold_abbrev_sides
  after_results
  rfl

theorem v0_at (b : Fin 64) (k : Fin 1024) : V1 m c main_v0 (ix2 b k) = arg m c main_arg0 (ix3 b 0 k) := by
  rw [V1_v0]
  generalize arg m c main_arg0 = X
  pointwise

theorem v1_at (b : Fin 64) (u : Fin 8) (k : Fin 512) : V1 m c main_v1 (ix2 b (Spec.side u k)) = arg m c main_arg1 (ix3 b u k) := by
  rw [V1_v1]
  generalize arg m c main_arg1 = X
  unfold Spec.side
  pointwise

theorem v2_at (b : Fin 64) (u : Fin 8) (k : Fin 512) : V1 m c main_v2 (ix2 b (Spec.side u k)) = arg m c main_arg2 (ix3 b u k) := by
  rw [V1_v2]
  generalize arg m c main_arg2 = X
  unfold Spec.side
  pointwise

theorem v5_at (b : Fin 64) (u : Fin 8) (d : Fin 512) : V4 m (outs m) c main_v5 (ix3 b u d) = W3 m c main_v4_1 (ix2 b (Spec.side u d)) := by
  rw [V4_v5]
  generalize W3 m c main_v4_1 = X
  unfold Spec.side
  pointwise
  exact congrArg (fun n => X (ix2 b n)) (Fin.ext (by simp only; omega))

theorem v6_at (b : Fin 64) (u : Fin 8) (d : Fin 512) : V4 m (outs m) c main_v6 (ix3 b u d) = W3 m c main_v4_0 (ix2 b (Spec.side u d)) := by
  rw [V4_v6]
  generalize W3 m c main_v4_0 = X
  unfold Spec.side
  pointwise
  exact congrArg (fun n => X (ix2 b n)) (Fin.ext (by simp only; omega))

/-- The score the first region computes is the reference's. -/
theorem score_at (b : Fin 64) (u : Fin 8) :
    Region0.scoreAt (V1 m c main_v0) (V1 m c main_v1) (V1 m c main_arg3) (V1 m c main_arg5) b u
      = Ref.sc (arg m c main_arg0) (arg m c main_arg1) (arg m c main_arg3) (arg m c main_arg5) b u := by
  have e0 : (fun k => V1 m c main_v0 (ix2 b k) : Fin 1024 → EReal) = fun k => arg m c main_arg0 (ix3 b 0 k) := funext fun k => v0_at m c b k
  have e1 : (fun k => V1 m c main_v1 (ix2 b (Spec.side u k)) : Fin 512 → EReal) = fun k => arg m c main_arg1 (ix3 b u k) := funext fun k => v1_at m c b u k
  have e3 : V1 m c main_arg3 = arg m c main_arg3 := V1_of m c _ (by decide)
  have e5 : V1 m c main_arg5 = arg m c main_arg5 := V1_of m c _ (by decide)
  unfold Region0.scoreAt Ref.sc
  rw [e3, e5]
  exact congrArg₂ (fun p q => Spec.score p q (fun k j => arg m c main_arg3 (ix2 k j)) (fun k j => arg m c main_arg5 (ix3 u k j))) e0 e1

/-- The mask as the first region leaves it. -/
theorem mask_at (b : Fin 64) (u : Fin 8) :
    W2 m c main_v3_2 (ix3 u b 0) = Ref.mk (arg m c main_arg0) (arg m c main_arg1) (arg m c main_arg3) (arg m c main_arg5) b u := by
  rw [W2_v3_2, Region0.arr7]
  refine (Region0.out7_at _ _ _ _ _ u b 0).trans ((Region0.maskAll_at _ _ _ _ _ b u).trans ?_)
  unfold Region0.maskAt Ref.mk
  exact congrArg (fun s => Spec.mask s u) (funext fun u => score_at m c b u)

/-- The gate as the first region leaves it. -/
theorem gate_at (b : Fin 64) (u : Fin 8) :
    W2 m c main_v3_1 (ix3 u b 0) = Ideal.logistic (Ref.sc (arg m c main_arg0) (arg m c main_arg1) (arg m c main_arg3) (arg m c main_arg5) b u)
      * Ref.mk (arg m c main_arg0) (arg m c main_arg1) (arg m c main_arg3) (arg m c main_arg5) b u := by
  rw [W2_v3_1, Region0.arr6]
  refine (Region0.out6_at _ _ _ _ _ u b 0).trans ((Region0.gateAll_at _ _ _ _ _ b u).trans ?_)
  unfold Region0.maskAt Ref.mk
  rw [score_at m c b u]
  exact congrArg (fun s => _ * Spec.mask s u) (funext fun u => score_at m c b u)

/-- The value as the first region leaves it. -/
theorem value_at (b : Fin 64) (d : Fin 512) :
    W2 m c main_v3_0 (ix2 b d) = Ref.vl (arg m c main_arg0) (arg m c main_arg4) b d := by
  have e0 : (fun k => V1 m c main_v0 (ix2 b k) : Fin 1024 → EReal) = fun k => arg m c main_arg0 (ix3 b 0 k) := funext fun k => v0_at m c b k
  have e4 : V1 m c main_arg4 = arg m c main_arg4 := V1_of m c _ (by decide)
  rw [W2_v3_0, Region0.arr5]
  refine (Region0.out5_at _ _ _ _ _ b d).trans ?_
  unfold Ref.vl
  rw [e4]
  exact congrArg (fun p => Spec.value p (fun k e => arg m c main_arg4 (ix2 k e)) d) e0

/-- The inputs of the cells. -/
def inp (b : Fin 64) (u : Fin 8) (k : Fin 512) : EReal :=
  (Ideal.logistic (Ref.sc (arg m c main_arg0) (arg m c main_arg1) (arg m c main_arg3) (arg m c main_arg5) b u)
    * Ref.mk (arg m c main_arg0) (arg m c main_arg1) (arg m c main_arg3) (arg m c main_arg5) b u) * Ref.vl (arg m c main_arg0) (arg m c main_arg4) b k

/-- The first region leaves the arguments, and the host operations before it, as they are. -/
theorem W2_arg (r : Ref sig .tc) (h : r ∉ ([main_v3_0, main_v3_1, main_v3_2] : List (Ref sig .tc))) (h' : r ∉ hostOps0_W) : W2 m c r = arg m c r :=
  (W2_of m c r h).trans (V1_of m c r h')

/-- The cell states after the run. -/
theorem cs_result (b : Fin 64) (u : Fin 8) (d : Fin 512) :
    V4 m (outs m) c main_v6 (ix3 b u d) = Spec.cOut (Ref.mk (arg m c main_arg0) (arg m c main_arg1) (arg m c main_arg3) (arg m c main_arg5) b u)
      (Ref.cn (arg m c main_arg1) (arg m c main_arg2) (arg m c main_arg6) (arg m c main_arg7) (inp m c) b u) (fun k => arg m c main_arg2 (ix3 b u k)) d := by
  rw [v6_at, W3_v4_0, Region1.arr15]
  refine (Region1.csAll_at (W2 m) c u _ b d rfl (by show 512 * u.val + d.val = _; omega)).trans ?_
  exact Region1.csUnit_at (W2 m) c (arg m c main_arg1) (arg m c main_arg2) (arg m c main_arg6) (arg m c main_arg7) (inp m c) _ _ _
    (fun b u k => (congrFun (W2_of m c main_v1 (by decide)) _).trans (v1_at m c b u k))
    (fun b u k => (congrFun (W2_of m c main_v2 (by decide)) _).trans (v2_at m c b u k))
    (fun b u k => rfl) (gate_at m c) (value_at m c) (mask_at m c)
    (congrFun (W2_arg m c main_arg6 (by decide) (by decide))) (congrFun (W2_arg m c main_arg7 (by decide) (by decide))) u b d

/-- The hidden states after the run. -/
theorem hs_result (b : Fin 64) (u : Fin 8) (d : Fin 512) :
    V4 m (outs m) c main_v5 (ix3 b u d) = Spec.hOut (Ref.mk (arg m c main_arg0) (arg m c main_arg1) (arg m c main_arg3) (arg m c main_arg5) b u)
      (Ref.hn (arg m c main_arg1) (arg m c main_arg2) (arg m c main_arg6) (arg m c main_arg7) (inp m c) b u) (fun k => arg m c main_arg1 (ix3 b u k))
      (Spec.ctx (Ref.ky (arg m c main_arg1) (arg m c main_arg2) (arg m c main_arg6) (arg m c main_arg7) (arg m c main_arg9) (inp m c) b u)
        (Ref.ky (arg m c main_arg1) (arg m c main_arg2) (arg m c main_arg6) (arg m c main_arg7) (arg m c main_arg8) (inp m c) b)
        (Ref.va (arg m c main_arg1) (arg m c main_arg2) (arg m c main_arg6) (arg m c main_arg7) (arg m c main_arg10) (inp m c) b))
      (fun k e => arg m c main_arg11 (ix3 u k e)) d := by
  rw [v5_at, W3_v4_1, Region1.arr16]
  refine (Region1.hsAll_at (W2 m) c u _ b d rfl (by show 512 * u.val + d.val = _; omega)).trans ?_
  exact Region1.hsUnit_at (W2 m) c (arg m c main_arg1) (arg m c main_arg2) (arg m c main_arg6) (arg m c main_arg7) (arg m c main_arg8) (arg m c main_arg9)
    (arg m c main_arg10) (arg m c main_arg11) (inp m c) _ _ _
    (fun b u k => (congrFun (W2_of m c main_v1 (by decide)) _).trans (v1_at m c b u k))
    (fun b u k => (congrFun (W2_of m c main_v2 (by decide)) _).trans (v2_at m c b u k))
    (fun b u k => rfl) (gate_at m c) (value_at m c) (mask_at m c)
    (congrFun (W2_arg m c main_arg6 (by decide) (by decide))) (congrFun (W2_arg m c main_arg7 (by decide) (by decide)))
    (congrFun (W2_arg m c main_arg8 (by decide) (by decide))) (congrFun (W2_arg m c main_arg9 (by decide) (by decide)))
    (congrFun (W2_arg m c main_arg10 (by decide) (by decide))) (congrFun (W2_arg m c main_arg11 (by decide) (by decide))) u b d

end Cert.Proof.KernelIdeal.Run

end
-- ==== Proof.Finite.lean ====
/-
  The precondition read element by element: where it holds, the five arrays it names hold real numbers.
-/
module

public import proofs.«01_k».proof.Defs
public import proofs.«01_k».proof.Proof.RefFront

@[expose] public section

noncomputable section

namespace Cert.Pre_finite.Gen

/-- The side conditions of the precondition's broadcasts hold. -/
theorem facts : Cert.Pre_finite.Facts :=
  ⟨by decide, by decide, by decide, by decide, by decide⟩

end Cert.Pre_finite.Gen

namespace Cert.Proof.Ref

open Idealize.ShloMosaic

/-- An array whose absolute values all lie below the pattern of infinity holds real numbers. -/
theorem isReal_of_lt {s : Shape} (x : Vec Ideal s .f32)
    (h : ∀ i, FloatOps.cmpf (F := Ideal) (φ := .f32) .olt (FloatOps.hostAbsf (x i)) (FloatOps.ofBits .f32 0x7F800000#32) = 1#1) : IsReal x := by
  intro i
  have hi := h i
  rw [Ideal.cmpf_def, Ideal.hostAbsf_def, Ideal.absf_def, Ideal.ofBits_def, Spec.bits_top] at hi
  generalize (x i : EReal) = a at hi ⊢
  induction a using EReal.rec with
  | bot => simp [Ideal.cmp] at hi
  | top => simp [Ideal.cmp] at hi
  | coe r => exact ⟨r, rfl⟩

variable [Cert.Pre_finite.Facts]
  (m : (ℓ : Loc Cert.KernelIdeal.nD Cert.KernelIdeal.τ Cert.KernelIdeal.sig) → Buf (Elt Ideal) ℓ)
  (h : Cert.Pre_KernelIdeal_finite m) (c : Dev Cert.KernelIdeal.nD)

include h

/-- The input is real. -/
theorem real0 : IsReal (s := Cert.ReferenceIdeal.S64x1x1024) (m ((c.tc : Thread Cert.KernelIdeal.nD Cert.KernelIdeal.τ).loc Cert.KernelIdeal.main_arg0)) :=
  isReal_of_lt _ fun i => congrFun (h c).1 i

/-- The hidden states are real. -/
theorem real1 : IsReal (s := Cert.ReferenceIdeal.S64x8x512) (m ((c.tc : Thread Cert.KernelIdeal.nD Cert.KernelIdeal.τ).loc Cert.KernelIdeal.main_arg1)) :=
  isReal_of_lt _ fun i => congrFun (h c).2.1 i

/-- The key weights are real. -/
theorem real3 : IsReal (s := Cert.ReferenceIdeal.S1024x256) (m ((c.tc : Thread Cert.KernelIdeal.nD Cert.KernelIdeal.τ).loc Cert.KernelIdeal.main_arg3)) :=
  isReal_of_lt _ fun i => congrFun (h c).2.2.1 i

/-- The value weights are real. -/
theorem real4 : IsReal (s := Cert.ReferenceIdeal.S1024x2048) (m ((c.tc : Thread Cert.KernelIdeal.nD Cert.KernelIdeal.τ).loc Cert.KernelIdeal.main_arg4)) :=
  isReal_of_lt _ fun i => congrFun (h c).2.2.2.1 i

/-- The query weights are real. -/
theorem real5 : IsReal (s := Cert.ReferenceIdeal.S8x512x256) (m ((c.tc : Thread Cert.KernelIdeal.nD Cert.KernelIdeal.τ).loc Cert.KernelIdeal.main_arg5)) :=
  isReal_of_lt _ fun i => congrFun (h c).2.2.2.2 i

end Cert.Proof.Ref

end
-- ==== Proof.Algebraic.lean ====
/-
  The idealized kernel and the idealized reference end with equal results.
-/
module

public import proofs.«01_k».proof.Defs
public import proofs.«01_k».proof.Proof.Results
public import proofs.«01_k».proof.Proof.RefBack
public import proofs.«01_k».proof.Proof.Finite
public import proofs.«01_k».proof.Proof.KernelIdealRun
public import proofs.«01_k».proof.Proof.Gen.ReferenceIdeal.Run

@[expose] public section

set_option maxRecDepth 16384

noncomputable section

namespace Cert.Proof

open Idealize.ShloMosaic Idealize.ShloMosaic.TcCoe Idealize.SL.Sem
open Cert.Proof.KernelIdeal Cert.Proof.KernelIdeal.Run

section Equal

variable [Cert.Pre_finite.Facts]
  (m : (ℓ : Loc Cert.KernelIdeal.nD Cert.KernelIdeal.τ Cert.KernelIdeal.sig) → Buf (Elt Ideal) ℓ)
  (h : Cert.Pre_KernelIdeal_finite m) (c : Dev Cert.KernelIdeal.nD)

include h

/-- The reference's mask, over the kernel's arguments. -/
theorem mask_eq (b : Fin 64) (u : Fin 8) :
    Cert.ReferenceIdeal.Read.val_main_v42 (F := Ideal) (Run.arg m c Cert.KernelIdeal.main_arg0) (Run.arg m c Cert.KernelIdeal.main_arg1) (Run.arg m c Cert.KernelIdeal.main_arg3) (Run.arg m c Cert.KernelIdeal.main_arg5) (ix2 b u) = Ref.mk (Run.arg m c Cert.KernelIdeal.main_arg0) (Run.arg m c Cert.KernelIdeal.main_arg1) (Run.arg m c Cert.KernelIdeal.main_arg3) (Run.arg m c Cert.KernelIdeal.main_arg5) b u :=
  Ref.v42_at _ _ _ _ (Ref.real0 m h c) (Ref.real1 m h c) (Ref.real3 m h c) (Ref.real5 m h c) b u

/-- The reference's inputs of the cells, over the kernel's arguments. -/
theorem inp_eq (b : Fin 64) (u : Fin 8) (d : Fin 512) :
    Cert.ReferenceIdeal.Read.val_main_v57 (F := Ideal) (Run.arg m c Cert.KernelIdeal.main_arg0) (Run.arg m c Cert.KernelIdeal.main_arg1) (Run.arg m c Cert.KernelIdeal.main_arg3) (Run.arg m c Cert.KernelIdeal.main_arg4) (Run.arg m c Cert.KernelIdeal.main_arg5) (ix3 b u d) = inp m c b u d :=
  Ref.v57_at _ _ _ _ _ (Ref.real0 m h c) (Ref.real1 m h c) (Ref.real3 m h c) (Ref.real4 m h c) (Ref.real5 m h c) b u d

/-- The hidden states agree. -/
theorem hs_eq : Cert.ReferenceIdeal.Read.val_main_v134 (F := Ideal) (Run.arg m c Cert.KernelIdeal.main_arg0) (Run.arg m c Cert.KernelIdeal.main_arg1) (Run.arg m c Cert.KernelIdeal.main_arg2) (Run.arg m c Cert.KernelIdeal.main_arg3) (Run.arg m c Cert.KernelIdeal.main_arg4) (Run.arg m c Cert.KernelIdeal.main_arg5) (Run.arg m c Cert.KernelIdeal.main_arg6) (Run.arg m c Cert.KernelIdeal.main_arg7) (Run.arg m c Cert.KernelIdeal.main_arg8) (Run.arg m c Cert.KernelIdeal.main_arg9) (Run.arg m c Cert.KernelIdeal.main_arg10) (Run.arg m c Cert.KernelIdeal.main_arg11) = Cert.KernelIdeal.Gen.V4 m (outs m) c Cert.KernelIdeal.main_v5 := by
  funext i
  obtain ⟨b, u, d, rfl⟩ : ∃ (b : Fin 64) (u : Fin 8) (d : Fin 512), i = ix3 b u d := ⟨i 0, i 1, i 2, eq_ix3 i⟩
  exact (Ref.v134_at _ _ _ _ _ _ _ _ _ _ _ _ (inp m c) _ (inp_eq m h c) (mask_eq m h c) (fun b u => Spec.mask_cases _ u) b u d).trans
    (hs_result m c b u d).symm

/-- The cell states agree. -/
theorem cs_eq : Cert.ReferenceIdeal.Read.val_main_v141 (F := Ideal) (Run.arg m c Cert.KernelIdeal.main_arg0) (Run.arg m c Cert.KernelIdeal.main_arg1) (Run.arg m c Cert.KernelIdeal.main_arg2) (Run.arg m c Cert.KernelIdeal.main_arg3) (Run.arg m c Cert.KernelIdeal.main_arg4) (Run.arg m c Cert.KernelIdeal.main_arg5) (Run.arg m c Cert.KernelIdeal.main_arg6) (Run.arg m c Cert.KernelIdeal.main_arg7) = Cert.KernelIdeal.Gen.V4 m (outs m) c Cert.KernelIdeal.main_v6 := by
  funext i
  obtain ⟨b, u, d, rfl⟩ : ∃ (b : Fin 64) (u : Fin 8) (d : Fin 512), i = ix3 b u d := ⟨i 0, i 1, i 2, eq_ix3 i⟩
  exact (Ref.v141_at _ _ _ _ _ _ _ _ (inp m c) _ (inp_eq m h c) (mask_eq m h c) b u d).trans (cs_result m c b u d).symm

end Equal

/-- From memories that agree on the arguments, under the precondition, both programs run, end with equal results and leave
    their arguments. -/
theorem algebraic [hf : Cert.Pre_finite.Facts] : Cert.algebraic_KernelIdeal_ReferenceIdeal_pre_finite := by
  intro m g m' g' h hm
  refine ⟨fun c => Cert.KernelIdeal.Gen.V4 m (outs m) c Cert.KernelIdeal.main_v5, fun c => Cert.KernelIdeal.Gen.V4 m (outs m) c Cert.KernelIdeal.main_v6, ?_, ?_⟩
  · refine (θ_run Cert.KernelIdeal.defs _ _).mono (fun _ hr c => ?_) (Run.run m g)
    have h := hr.1 c
    exact ⟨h.2.2.2.2.2.2.2.2.2.2.2.2.1, h.2.2.2.2.2.2.2.2.2.2.2.2.2, h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1⟩
  · refine (θ_run Cert.ReferenceIdeal.defs _ _).mono (fun _ hr c => ?_) (Cert.ReferenceIdeal.Value.run m' g')
    have e := hr c
    obtain ⟨a0, a1, a2, a3, a4, a5, a6, a7, a8, a9, a10, a11⟩ := hm c
    refine ⟨(e.1.trans (Cert.ReferenceIdeal.Read.val_main_v134_eq _)).trans ?_, (e.2.1.trans (Cert.ReferenceIdeal.Read.val_main_v141_eq _)).trans ?_, e.2.2⟩
    · rw [show StableHlo.launchContents m' c (Proc.devRef .tc Cert.ReferenceIdeal.main_arg0) = _ from a0,
        show StableHlo.launchContents m' c (Proc.devRef .tc Cert.ReferenceIdeal.main_arg1) = _ from a1,
        show StableHlo.launchContents m' c (Proc.devRef .tc Cert.ReferenceIdeal.main_arg2) = _ from a2,
        show StableHlo.launchContents m' c (Proc.devRef .tc Cert.ReferenceIdeal.main_arg3) = _ from a3,
        show StableHlo.launchContents m' c (Proc.devRef .tc Cert.ReferenceIdeal.main_arg4) = _ from a4,
        show StableHlo.launchContents m' c (Proc.devRef .tc Cert.ReferenceIdeal.main_arg5) = _ from a5,
        show StableHlo.launchContents m' c (Proc.devRef .tc Cert.ReferenceIdeal.main_arg6) = _ from a6,
        show StableHlo.launchContents m' c (Proc.devRef .tc Cert.ReferenceIdeal.main_arg7) = _ from a7,
        show StableHlo.launchContents m' c (Proc.devRef .tc Cert.ReferenceIdeal.main_arg8) = _ from a8,
        show StableHlo.launchContents m' c (Proc.devRef .tc Cert.ReferenceIdeal.main_arg9) = _ from a9,
        show StableHlo.launchContents m' c (Proc.devRef .tc Cert.ReferenceIdeal.main_arg10) = _ from a10,
        show StableHlo.launchContents m' c (Proc.devRef .tc Cert.ReferenceIdeal.main_arg11) = _ from a11]
      exact hs_eq m h c
    · rw [show StableHlo.launchContents m' c (Proc.devRef .tc Cert.ReferenceIdeal.main_arg0) = _ from a0,
        show StableHlo.launchContents m' c (Proc.devRef .tc Cert.ReferenceIdeal.main_arg1) = _ from a1,
        show StableHlo.launchContents m' c (Proc.devRef .tc Cert.ReferenceIdeal.main_arg2) = _ from a2,
        show StableHlo.launchContents m' c (Proc.devRef .tc Cert.ReferenceIdeal.main_arg3) = _ from a3,
        show StableHlo.launchContents m' c (Proc.devRef .tc Cert.ReferenceIdeal.main_arg4) = _ from a4,
        show StableHlo.launchContents m' c (Proc.devRef .tc Cert.ReferenceIdeal.main_arg5) = _ from a5,
        show StableHlo.launchContents m' c (Proc.devRef .tc Cert.ReferenceIdeal.main_arg6) = _ from a6,
        show StableHlo.launchContents m' c (Proc.devRef .tc Cert.ReferenceIdeal.main_arg7) = _ from a7]
      exact cs_eq m h c

end Cert.Proof

end
-- ==== Proof.lean ====
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem

/-- The kernel runs, leaves its arguments and ends with every semaphore at zero. -/
theorem frame_kernel : Cert.quiescent_Kernel := fun m ρ _ =>
  (θ_run Cert.Kernel.defs _ _).mono
    (fun _ hr => ⟨fun c => by
      have h := hr.1 c
      exact ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1⟩, hr.2⟩)
    (Cert.Proof.Kernel.Run.run m ρ)

/-- The idealized kernel does too. -/
theorem frame_kernelIdeal : Cert.quiescent_KernelIdeal := fun m ρ _ =>
  (θ_run Cert.KernelIdeal.defs _ _).mono
    (fun _ hr => ⟨fun c => by
      have h := hr.1 c
      exact ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1⟩, hr.2⟩)
    (Cert.Proof.KernelIdeal.Run.run m ρ)

/-- The idealized reference does too. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The idealized kernel, under the precondition. -/
theorem frame_kernelIdeal_pre [hf : Cert.Pre_finite.Facts] : Cert.quiescent_KernelIdeal_pre_finite := fun m ρ _ => frame_kernelIdeal m ρ trivial

/-- The idealized reference, under the precondition. -/
theorem frame_referenceIdeal_pre [hf : Cert.Pre_finite.Facts] : Cert.quiescent_ReferenceIdeal_pre_finite := fun m ρ _ => frame_referenceIdeal m ρ trivial

/-- Every claim. -/
theorem claim : Cert.Claim := ⟨Cert.Kernel.Gen.facts, Cert.KernelIdeal.Gen.facts, Cert.ReferenceIdeal.Gen.facts, Cert.Pre_finite.Gen.facts,
  frame_kernel, frame_kernelIdeal, frame_kernelIdeal_pre (hf := Cert.Pre_finite.Gen.facts), frame_referenceIdeal, frame_referenceIdeal_pre (hf := Cert.Pre_finite.Gen.facts), trivial,
  algebraic (hf := Cert.Pre_finite.Gen.facts)⟩

end Cert.Proof

end
